-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S2x640x2x128 Cert.KernelIdeal.S2x640x1x128
  ∧ IdealRules.bf16_pair.BufferStatement Cert.KernelIdeal.S4x2x512x2x128 Cert.KernelIdeal.S4x2x512x1x128
  ∧ IdealRules.bf16_pair.PackStatement Cert.KernelIdeal.S80x128
  ∧ IdealRules.bf16_pair.Statement Cert.KernelIdeal.S1x80x2x128 Cert.KernelIdeal.S1x80x1x128
  ∧ IdealRules.bf16_pair.Statement Cert.KernelIdeal.S1x8x2x128 Cert.KernelIdeal.S1x8x1x128
  ∧ IdealRules.bf16_pair.Statement Cert.KernelIdeal.S16x128 Cert.KernelIdeal.S8x128
  ∧ IdealRules.bf16_pair.Statement Cert.KernelIdeal.S512x128 Cert.KernelIdeal.S256x128
  ∧ IdealRules.bf16_pair.Statement Cert.KernelIdeal.S1x1x256x2x128 Cert.KernelIdeal.S1x1x256x1x128
  ∧ IdealRules.bf16_pair.Statement Cert.KernelIdeal.S1x1x128x2x128 Cert.KernelIdeal.S1x1x128x1x128
  ∧ IdealRules.bf16_pair.Statement Cert.KernelIdeal.S256x128 Cert.KernelIdeal.S128x128
  ∧ IdealRules.bf16_pair.Statement Cert.KernelIdeal.S1x1x64x2x128 Cert.KernelIdeal.S1x1x64x1x128
  ∧ IdealRules.bf16_pair.Statement Cert.KernelIdeal.S128x128 Cert.KernelIdeal.S64x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x10112 : Shape := ⟨3, ![128, 1, 10112]⟩
abbrev S10112x4080 : Shape := ⟨2, ![10112, 4080]⟩
abbrev S79x32640 : Shape := ⟨2, ![79, 32640]⟩
abbrev S128x10112 : Shape := ⟨2, ![128, 10112]⟩
abbrev S128x32640 : Shape := ⟨2, ![128, 32640]⟩
abbrev S10112x128 : Shape := ⟨2, ![10112, 128]⟩
abbrev S79x1024 : Shape := ⟨2, ![79, 1024]⟩
abbrev S128x1024 : Shape := ⟨2, ![128, 1024]⟩
abbrev S1024x128 : Shape := ⟨2, ![1024, 128]⟩
abbrev S2x640x128 : Shape := ⟨3, ![2, 640, 128]⟩
abbrev S4x2x512x128 : Shape := ⟨4, ![4, 2, 512, 128]⟩
abbrev S1x1024 : Shape := ⟨2, ![1, 1024]⟩
abbrev S80x1024 : Shape := ⟨2, ![80, 1024]⟩
abbrev S80x128 : Shape := ⟨2, ![80, 128]⟩
abbrev S128x80 : Shape := ⟨2, ![128, 80]⟩
abbrev S128x128 : Shape := ⟨2, ![128, 128]⟩
abbrev S1x80x128 : Shape := ⟨3, ![1, 80, 128]⟩
abbrev S64x128 : Shape := ⟨2, ![64, 128]⟩
abbrev S256x128 : Shape := ⟨2, ![256, 128]⟩
abbrev S256x1x128 : Shape := ⟨3, ![256, 1, 128]⟩
abbrev S256x2x128 : Shape := ⟨3, ![256, 2, 128]⟩
abbrev S512x128 : Shape := ⟨2, ![512, 128]⟩
abbrev S1x8x128 : Shape := ⟨3, ![1, 8, 128]⟩
abbrev S8x128 : Shape := ⟨2, ![8, 128]⟩
abbrev S16x128 : Shape := ⟨2, ![16, 128]⟩
abbrev S32x16x128 : Shape := ⟨3, ![32, 16, 128]⟩
abbrev S1x16x128 : Shape := ⟨3, ![1, 16, 128]⟩
abbrev S1x1x256x128 : Shape := ⟨4, ![1, 1, 256, 128]⟩
abbrev S128x256 : Shape := ⟨2, ![128, 256]⟩
abbrev S1x1x128x128 : Shape := ⟨4, ![1, 1, 128, 128]⟩
abbrev S256x256 : Shape := ⟨2, ![256, 256]⟩
abbrev S1x1x64x128 : Shape := ⟨4, ![1, 1, 64, 128]⟩
abbrev S128x1x32640 : Shape := ⟨3, ![128, 1, 32640]⟩

abbrev nBuf : Space → Nat
  | .hbm => 6
  | .vmem => 10
  | .smem => 0
  | _ => 0

abbrev bufTy : (tb : Table) → Fin (tcTables nBuf tb) → BufTy
  | .hbm, ⟨0, _⟩ => ⟨S128x1x10112, .bf16⟩
  | .hbm, ⟨1, _⟩ => ⟨S10112x4080, .i32⟩
  | .hbm, ⟨2, _⟩ => ⟨S79x32640, .bf16⟩
  | .hbm, ⟨3, _⟩ => ⟨S128x10112, .bf16⟩
  | .hbm, ⟨4, _⟩ => ⟨S128x32640, .bf16⟩
  | .hbm, ⟨5, _⟩ => ⟨S128x1x32640, .bf16⟩
  | .local _ .vmem, ⟨0, _⟩ => ⟨S128x10112, .bf16⟩
  | .local _ .vmem, ⟨1, _⟩ => ⟨S10112x128, .i32⟩
  | .local _ .vmem, ⟨2, _⟩ => ⟨S10112x128, .i32⟩
  | .local _ .vmem, ⟨3, _⟩ => ⟨S79x1024, .bf16⟩
  | .local _ .vmem, ⟨4, _⟩ => ⟨S79x1024, .bf16⟩
  | .local _ .vmem, ⟨5, _⟩ => ⟨S128x1024, .bf16⟩
  | .local _ .vmem, ⟨6, _⟩ => ⟨S128x1024, .bf16⟩
  | .local _ .vmem, ⟨7, _⟩ => ⟨S1024x128, .f32⟩
  | .local _ .vmem, ⟨8, _⟩ => ⟨S2x640x128, .i32⟩
  | .local _ .vmem, ⟨9, _⟩ => ⟨S4x2x512x128, .i32⟩
  | _, _ => ⟨S128x1x10112, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![32], ![false]⟩

def k0_mult1 : BitVec 32 :=
  let c0_i32 : BitVec 32 := 0#32
  c0_i32
@[reducible] def k0_t1_loop : Scf.Loop 32 :=
  let c1_i32 : BitVec 32 := 1#32
  let c38_i32 : BitVec 32 := 38#32
  let v256 : BitVec 32 := Scalar.addi c1_i32 c38_i32
  let c1_i32_141 : BitVec 32 := 1#32
  ⟨c1_i32, v256, c1_i32_141⟩
def k0_off1 (k0_t1 : Fin k0_t1_loop.trips) (c0_i32_251 : BitVec 32) : Fin 2 → Nat :=
  let c1_i32 : BitVec 32 := 1#32
  let c1_i32_141 : BitVec 32 := 1#32
  let arg8 : BitVec 32 := Scf.iv c1_i32 c1_i32_141 k0_t1
  let c2_i32 : BitVec 32 := 2#32
  let v428 : BitVec 32 := Scalar.muli arg8 c2_i32
  let v429 : BitVec 32 := Scalar.addi v428 c0_i32_251
  let c128_i32 : BitVec 32 := 128#32
  let v430 : BitVec 32 := Scalar.muli v429 c128_i32
  let v431 : Index := Scalar.indexCast v430
  let c0_252 : Index := 0#32
  ![v431.toNat, 0]
def k0_off2 (k0_t1 : Fin k0_t1_loop.trips) (c0_i32_251 : BitVec 32) : Fin 2 → Nat :=
  let c1_i32 : BitVec 32 := 1#32
  let c1_i32_141 : BitVec 32 := 1#32
  let arg8 : BitVec 32 := Scf.iv c1_i32 c1_i32_141 k0_t1
  let c2_i32 : BitVec 32 := 2#32
  let v428 : BitVec 32 := Scalar.muli arg8 c2_i32
  let v429 : BitVec 32 := Scalar.addi v428 c0_i32_251
  let c128_i32 : BitVec 32 := 128#32
  let v430 : BitVec 32 := Scalar.muli v429 c128_i32
  let c1_i32_253 : BitVec 32 := 1#32
  let v433 : BitVec 32 := Scalar.addi v430 c1_i32_253
  let v434 : Index := Scalar.indexCast v433
  let c0_254 : Index := 0#32
  ![v434.toNat, 0]
def k0_off3 (k0_t1 : Fin k0_t1_loop.trips) (c0_i32_251 : BitVec 32) : Fin 3 → Nat :=
  let c0_255 : Index := 0#32
  let c8_i32 : BitVec 32 := 8#32
  let c1_i32 : BitVec 32 := 1#32
  let c1_i32_141 : BitVec 32 := 1#32
  let arg8 : BitVec 32 := Scf.iv c1_i32 c1_i32_141 k0_t1
  let c2_i32 : BitVec 32 := 2#32
  let v428 : BitVec 32 := Scalar.muli arg8 c2_i32
  let v429 : BitVec 32 := Scalar.addi v428 c0_i32_251
  let v445 : BitVec 32 := Scalar.muli c8_i32 v429
  let v446 : Index := Scalar.indexCast v445
  let c0_256 : Index := 0#32
  ![0, v446.toNat, 0]
def k0_off4 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v456 : Index := Scalar.indexCast v427
  let c0_257 : Index := 0#32
  let c0_258 : Index := 0#32
  let c0_259 : Index := 0#32
  ![v456.toNat, 0, 0, 0]
def k0_off5 (k0_t1 : Fin k0_t1_loop.trips) (c0_i32_251 : BitVec 32) : Fin 3 → Nat :=
  let c1_263 : Index := 1#32
  let c8_i32_262 : BitVec 32 := 8#32
  let c1_i32 : BitVec 32 := 1#32
  let c1_i32_141 : BitVec 32 := 1#32
  let arg8 : BitVec 32 := Scf.iv c1_i32 c1_i32_141 k0_t1
  let c2_i32 : BitVec 32 := 2#32
  let v428 : BitVec 32 := Scalar.muli arg8 c2_i32
  let v429 : BitVec 32 := Scalar.addi v428 c0_i32_251
  let v473 : BitVec 32 := Scalar.muli c8_i32_262 v429
  let v474 : Index := Scalar.indexCast v473
  let c0_264 : Index := 0#32
  ![1, v474.toNat, 0]
def k0_off6 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v484 : Index := Scalar.indexCast v427
  let c1_265 : Index := 1#32
  let c0_266 : Index := 0#32
  let c0_267 : Index := 0#32
  ![v484.toNat, 1, 0, 0]
def k0_off7 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v516 : Index := Scalar.indexCast v427
  let c0_277 : Index := 0#32
  let c256_278 : Index := 256#32
  let c0_279 : Index := 0#32
  ![v516.toNat, 0, 256, 0]
def k0_off8 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v544 : Index := Scalar.indexCast v427
  let c1_285 : Index := 1#32
  let c256_286 : Index := 256#32
  let c0_287 : Index := 0#32
  ![v544.toNat, 1, 256, 0]
def k0_mult2 (k0_t1 : Fin k0_t1_loop.trips) : BitVec 32 :=
  let c1_i32 : BitVec 32 := 1#32
  let c1_i32_141 : BitVec 32 := 1#32
  let arg8 : BitVec 32 := Scf.iv c1_i32 c1_i32_141 k0_t1
  let c256_i32 : BitVec 32 := 256#32
  let v548 : BitVec 32 := Scalar.muli arg8 c256_i32
  v548
def k0_off9 (k0_t1 : Fin k0_t1_loop.trips) : Fin 2 → Nat :=
  let c0_288 : Index := 0#32
  let c1_i32 : BitVec 32 := 1#32
  let c1_i32_141 : BitVec 32 := 1#32
  let arg8 : BitVec 32 := Scf.iv c1_i32 c1_i32_141 k0_t1
  let c256_i32 : BitVec 32 := 256#32
  let v548 : BitVec 32 := Scalar.muli arg8 c256_i32
  let v549 : BitVec 32 := v548
  let v550 : Index := Scalar.indexCast v549
  ![0, v550.toNat]
def k0_off10 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v553 : Index := Scalar.indexCast v427
  let c0_289 : Index := 0#32
  let c0_290 : Index := 0#32
  let c0_291 : Index := 0#32
  ![v553.toNat, 0, 0, 0]
def k0_off11 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v557 : Index := Scalar.indexCast v427
  let c0_292 : Index := 0#32
  let c1_293 : Index := 1#32
  let c0_294 : Index := 0#32
  ![v557.toNat, 0, 1, 0]
def k0_off12 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v564 : Index := Scalar.indexCast v427
  let c0_296 : Index := 0#32
  let c2_297 : Index := 2#32
  let c0_298 : Index := 0#32
  ![v564.toNat, 0, 2, 0]
def k0_off13 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v568 : Index := Scalar.indexCast v427
  let c0_299 : Index := 0#32
  let c3_300 : Index := 3#32
  let c0_301 : Index := 0#32
  ![v568.toNat, 0, 3, 0]
def k0_off14 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v575 : Index := Scalar.indexCast v427
  let c1_303 : Index := 1#32
  let c0_304 : Index := 0#32
  let c0_305 : Index := 0#32
  ![v575.toNat, 1, 0, 0]
def k0_off15 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v579 : Index := Scalar.indexCast v427
  let c1_306 : Index := 1#32
  let c1_307 : Index := 1#32
  let c0_308 : Index := 0#32
  ![v579.toNat, 1, 1, 0]
def k0_off16 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v586 : Index := Scalar.indexCast v427
  let c1_310 : Index := 1#32
  let c2_311 : Index := 2#32
  let c0_312 : Index := 0#32
  ![v586.toNat, 1, 2, 0]
def k0_off17 (k0_t1 : Fin k0_t1_loop.trips) : Fin 4 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v590 : Index := Scalar.indexCast v427
  let c1_313 : Index := 1#32
  let c3_314 : Index := 3#32
  let c0_315 : Index := 0#32
  ![v590.toNat, 1, 3, 0]
def k0_mult3 : BitVec 32 :=
  let c9984_i32 : BitVec 32 := 9984#32
  c9984_i32
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x10112 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10112x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S79x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
abbrev S128x1x10112 : Shape := ⟨3, ![128, 1, 10112]⟩
abbrev S10112x4080 : Shape := ⟨2, ![10112, 4080]⟩
abbrev S79x32640 : Shape := ⟨2, ![79, 32640]⟩
abbrev S128x10112 : Shape := ⟨2, ![128, 10112]⟩
abbrev S128x32640 : Shape := ⟨2, ![128, 32640]⟩
abbrev S10112x128 : Shape := ⟨2, ![10112, 128]⟩
abbrev S79x1024 : Shape := ⟨2, ![79, 1024]⟩
abbrev S128x1024 : Shape := ⟨2, ![128, 1024]⟩
abbrev S1024x128 : Shape := ⟨2, ![1024, 128]⟩
abbrev S2x640x128 : Shape := ⟨3, ![2, 640, 128]⟩
abbrev S2x640x2x128 : Shape := ⟨4, ![2, 640, 2, 128]⟩
abbrev S2x640x1x128 : Shape := ⟨4, ![2, 640, 1, 128]⟩
abbrev S4x2x512x128 : Shape := ⟨4, ![4, 2, 512, 128]⟩
abbrev S4x2x512x2x128 : Shape := ⟨5, ![4, 2, 512, 2, 128]⟩
abbrev S4x2x512x1x128 : Shape := ⟨5, ![4, 2, 512, 1, 128]⟩
abbrev S1x1024 : Shape := ⟨2, ![1, 1024]⟩
abbrev S80x1024 : Shape := ⟨2, ![80, 1024]⟩
abbrev S80x128 : Shape := ⟨2, ![80, 128]⟩
abbrev S128x80 : Shape := ⟨2, ![128, 80]⟩
abbrev S128x128 : Shape := ⟨2, ![128, 128]⟩
abbrev S1x80x128 : Shape := ⟨3, ![1, 80, 128]⟩
abbrev S1x80x2x128 : Shape := ⟨4, ![1, 80, 2, 128]⟩
abbrev S1x80x1x128 : Shape := ⟨4, ![1, 80, 1, 128]⟩
abbrev S64x128 : Shape := ⟨2, ![64, 128]⟩
abbrev S256x128 : Shape := ⟨2, ![256, 128]⟩
abbrev S256x1x128 : Shape := ⟨3, ![256, 1, 128]⟩
abbrev S256x2x128 : Shape := ⟨3, ![256, 2, 128]⟩
abbrev S512x128 : Shape := ⟨2, ![512, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S8x128 : Shape := ⟨2, ![8, 128]⟩
abbrev S16x128 : Shape := ⟨2, ![16, 128]⟩
abbrev S32x16x128 : Shape := ⟨3, ![32, 16, 128]⟩
abbrev S1x16x128 : Shape := ⟨3, ![1, 16, 128]⟩
abbrev S1x1x256x128 : Shape := ⟨4, ![1, 1, 256, 128]⟩
abbrev S1x1x256x2x128 : Shape := ⟨5, ![1, 1, 256, 2, 128]⟩
abbrev S1x1x256x1x128 : Shape := ⟨5, ![1, 1, 256, 1, 128]⟩
abbrev S128x256 : Shape := ⟨2, ![128, 256]⟩
abbrev S1x1x128x128 : Shape := ⟨4, ![1, 1, 128, 128]⟩
abbrev S1x1x128x2x128 : Shape := ⟨5, ![1, 1, 128, 2, 128]⟩
abbrev S1x1x128x1x128 : Shape := ⟨5, ![1, 1, 128, 1, 128]⟩
abbrev S256x256 : Shape := ⟨2, ![256, 256]⟩
abbrev S1x1x64x128 : Shape := ⟨4, ![1, 1, 64, 128]⟩
abbrev S1x1x64x2x128 : Shape := ⟨5, ![1, 1, 64, 2, 128]⟩
abbrev S1x1x64x1x128 : Shape := ⟨5, ![1, 1, 64, 1, 128]⟩
abbrev S128x1x32640 : Shape := ⟨3, ![128, 1, 32640]⟩

abbrev nBuf : Space → Nat
  | .hbm => 6
  | .vmem => 10
  | .smem => 0
  | _ => 0

abbrev bufTy : (tb : Table) → Fin (tcTables nBuf tb) → BufTy
  | .hbm, ⟨0, _⟩ => ⟨S128x1x10112, .bf16⟩
  | .hbm, ⟨1, _⟩ => ⟨S10112x4080, .i32⟩
  | .hbm, ⟨2, _⟩ => ⟨S79x32640, .bf16⟩
  | .hbm, ⟨3, _⟩ => ⟨S128x10112, .bf16⟩
  | .hbm, ⟨4, _⟩ => ⟨S128x32640, .bf16⟩
  | .hbm, ⟨5, _⟩ => ⟨S128x1x32640, .bf16⟩
  | .local _ .vmem, ⟨0, _⟩ => ⟨S128x10112, .bf16⟩
  | .local _ .vmem, ⟨1, _⟩ => ⟨S10112x128, .i32⟩
  | .local _ .vmem, ⟨2, _⟩ => ⟨S10112x128, .i32⟩
  | .local _ .vmem, ⟨3, _⟩ => ⟨S79x1024, .bf16⟩
  | .local _ .vmem, ⟨4, _⟩ => ⟨S79x1024, .bf16⟩
  | .local _ .vmem, ⟨5, _⟩ => ⟨S128x1024, .bf16⟩
  | .local _ .vmem, ⟨6, _⟩ => ⟨S128x1024, .bf16⟩
  | .local _ .vmem, ⟨7, _⟩ => ⟨S1024x128, .f32⟩
  | .local _ .vmem, ⟨8, _⟩ => ⟨S2x640x2x128, .bf16⟩
  | .local _ .vmem, ⟨9, _⟩ => ⟨S4x2x512x2x128, .bf16⟩
  | _, _ => ⟨S128x1x10112, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  c0_i32
@[reducible] def k0_t1_loop : Scf.Loop 32 :=
  let c1_i32 : BitVec 32 := 1#32
  let c38_i32 : BitVec 32 := 38#32
  let v256 : BitVec 32 := Scalar.addi c1_i32 c38_i32
  let c1_i32_141 : BitVec 32 := 1#32
  ⟨c1_i32, v256, c1_i32_141⟩
def k0_off1 (k0_t1 : Fin k0_t1_loop.trips) (c0_i32_251 : BitVec 32) : Fin 2 → Nat :=
  let c1_i32 : BitVec 32 := 1#32
  let c1_i32_141 : BitVec 32 := 1#32
  let arg8 : BitVec 32 := Scf.iv c1_i32 c1_i32_141 k0_t1
  let c2_i32 : BitVec 32 := 2#32
  let v428 : BitVec 32 := Scalar.muli arg8 c2_i32
  let v429 : BitVec 32 := Scalar.addi v428 c0_i32_251
  let c128_i32 : BitVec 32 := 128#32
  let v430 : BitVec 32 := Scalar.muli v429 c128_i32
  let v431 : Index := Scalar.indexCast v430
  let c0_252 : Index := 0#32
  ![v431.toNat, 0]
def k0_off2 (k0_t1 : Fin k0_t1_loop.trips) (c0_i32_251 : BitVec 32) : Fin 2 → Nat :=
  let c1_i32 : BitVec 32 := 1#32
  let c1_i32_141 : BitVec 32 := 1#32
  let arg8 : BitVec 32 := Scf.iv c1_i32 c1_i32_141 k0_t1
  let c2_i32 : BitVec 32 := 2#32
  let v428 : BitVec 32 := Scalar.muli arg8 c2_i32
  let v429 : BitVec 32 := Scalar.addi v428 c0_i32_251
  let c128_i32 : BitVec 32 := 128#32
  let v430 : BitVec 32 := Scalar.muli v429 c128_i32
  let c1_i32_253 : BitVec 32 := 1#32
  let v433 : BitVec 32 := Scalar.addi v430 c1_i32_253
  let v434 : Index := Scalar.indexCast v433
  let c0_254 : Index := 0#32
  ![v434.toNat, 0]
def k0_off3 (k0_t1 : Fin k0_t1_loop.trips) (c0_i32_251 : BitVec 32) : Fin 4 → Nat :=
  let c0_255 : Index := 0#32
  let c8_i32 : BitVec 32 := 8#32
  let c1_i32 : BitVec 32 := 1#32
  let c1_i32_141 : BitVec 32 := 1#32
  let arg8 : BitVec 32 := Scf.iv c1_i32 c1_i32_141 k0_t1
  let c2_i32 : BitVec 32 := 2#32
  let v428 : BitVec 32 := Scalar.muli arg8 c2_i32
  let v429 : BitVec 32 := Scalar.addi v428 c0_i32_251
  let v445 : BitVec 32 := Scalar.muli c8_i32 v429
  let v446 : Index := Scalar.indexCast v445
  let c0_256 : Index := 0#32
  ![0, v446.toNat, 0, 0]
def k0_off4 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v456 : Index := Scalar.indexCast v427
  let c0_257 : Index := 0#32
  let c0_258 : Index := 0#32
  let c0_259 : Index := 0#32
  ![v456.toNat, 0, 0, 0, 0]
def k0_off5 (k0_t1 : Fin k0_t1_loop.trips) (c0_i32_251 : BitVec 32) : Fin 4 → Nat :=
  let c1_263 : Index := 1#32
  let c8_i32_262 : BitVec 32 := 8#32
  let c1_i32 : BitVec 32 := 1#32
  let c1_i32_141 : BitVec 32 := 1#32
  let arg8 : BitVec 32 := Scf.iv c1_i32 c1_i32_141 k0_t1
  let c2_i32 : BitVec 32 := 2#32
  let v428 : BitVec 32 := Scalar.muli arg8 c2_i32
  let v429 : BitVec 32 := Scalar.addi v428 c0_i32_251
  let v473 : BitVec 32 := Scalar.muli c8_i32_262 v429
  let v474 : Index := Scalar.indexCast v473
  let c0_264 : Index := 0#32
  ![1, v474.toNat, 0, 0]
def k0_off6 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v484 : Index := Scalar.indexCast v427
  let c1_265 : Index := 1#32
  let c0_266 : Index := 0#32
  let c0_267 : Index := 0#32
  ![v484.toNat, 1, 0, 0, 0]
def k0_off7 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v516 : Index := Scalar.indexCast v427
  let c0_277 : Index := 0#32
  let c256_278 : Index := 256#32
  let c0_279 : Index := 0#32
  ![v516.toNat, 0, 256, 0, 0]
def k0_off8 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v544 : Index := Scalar.indexCast v427
  let c1_285 : Index := 1#32
  let c256_286 : Index := 256#32
  let c0_287 : Index := 0#32
  ![v544.toNat, 1, 256, 0, 0]
def k0_mult2 (k0_t1 : Fin k0_t1_loop.trips) : BitVec 32 :=
  let c1_i32 : BitVec 32 := 1#32
  let c1_i32_141 : BitVec 32 := 1#32
  let arg8 : BitVec 32 := Scf.iv c1_i32 c1_i32_141 k0_t1
  let c256_i32 : BitVec 32 := 256#32
  let v548 : BitVec 32 := Scalar.muli arg8 c256_i32
  v548
def k0_off9 (k0_t1 : Fin k0_t1_loop.trips) : Fin 2 → Nat :=
  let c0_288 : Index := 0#32
  let c1_i32 : BitVec 32 := 1#32
  let c1_i32_141 : BitVec 32 := 1#32
  let arg8 : BitVec 32 := Scf.iv c1_i32 c1_i32_141 k0_t1
  let c256_i32 : BitVec 32 := 256#32
  let v548 : BitVec 32 := Scalar.muli arg8 c256_i32
  let v549 : BitVec 32 := v548
  let v550 : Index := Scalar.indexCast v549
  ![0, v550.toNat]
def k0_off10 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v553 : Index := Scalar.indexCast v427
  let c0_289 : Index := 0#32
  let c0_290 : Index := 0#32
  let c0_291 : Index := 0#32
  ![v553.toNat, 0, 0, 0, 0]
def k0_off11 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v557 : Index := Scalar.indexCast v427
  let c0_292 : Index := 0#32
  let c1_293 : Index := 1#32
  let c0_294 : Index := 0#32
  ![v557.toNat, 0, 1, 0, 0]
def k0_off12 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v564 : Index := Scalar.indexCast v427
  let c0_296 : Index := 0#32
  let c2_297 : Index := 2#32
  let c0_298 : Index := 0#32
  ![v564.toNat, 0, 2, 0, 0]
def k0_off13 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v568 : Index := Scalar.indexCast v427
  let c0_299 : Index := 0#32
  let c3_300 : Index := 3#32
  let c0_301 : Index := 0#32
  ![v568.toNat, 0, 3, 0, 0]
def k0_off14 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v575 : Index := Scalar.indexCast v427
  let c1_303 : Index := 1#32
  let c0_304 : Index := 0#32
  let c0_305 : Index := 0#32
  ![v575.toNat, 1, 0, 0, 0]
def k0_off15 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v579 : Index := Scalar.indexCast v427
  let c1_306 : Index := 1#32
  let c1_307 : Index := 1#32
  let c0_308 : Index := 0#32
  ![v579.toNat, 1, 1, 0, 0]
def k0_off16 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v586 : Index := Scalar.indexCast v427
  let c1_310 : Index := 1#32
  let c2_311 : Index := 2#32
  let c0_312 : Index := 0#32
  ![v586.toNat, 1, 2, 0, 0]
def k0_off17 (k0_t1 : Fin k0_t1_loop.trips) : Fin 5 → Nat :=
  let c1_i32 : BitVec 32 := 1#32
  let c1_i32_141 : BitVec 32 := 1#32
  let arg8 : BitVec 32 := Scf.iv c1_i32 c1_i32_141 k0_t1
  let c4_i32_245 : BitVec 32 := 4#32
  let c0_i32_246 : BitVec 32 := 0#32
  let v418 : BitVec 1 := Scalar.cmpi .eq c4_i32_245 c0_i32_246
  let c1_i32_247 : BitVec 32 := 1#32
  let v419 : BitVec 32 := Scalar.select v418 c1_i32_247 c4_i32_245
  let v420 : BitVec 32 := Scalar.remsi arg8 v419
  let c0_i32_249 : BitVec 32 := 0#32
  let v422 : BitVec 1 := Scalar.cmpi .slt v420 c0_i32_249
  let c0_i32_250 : BitVec 32 := 0#32
  let v423 : BitVec 1 := Scalar.cmpi .slt v419 c0_i32_250
  let v424 : BitVec 1 := Scalar.xori v422 v423
  let c0_i32_248 : BitVec 32 := 0#32
  let v421 : BitVec 1 := Scalar.cmpi .ne v420 c0_i32_248
  let v425 : BitVec 1 := Scalar.andi v424 v421
  let v426 : BitVec 32 := Scalar.addi v420 v419
  let v427 : BitVec 32 := Scalar.select v425 v426 v420
  let v590 : Index := Scalar.indexCast v427
  let c1_313 : Index := 1#32
  let c3_314 : Index := 3#32
  let c0_315 : Index := 0#32
  ![v590.toNat, 1, 3, 0, 0]
def k0_mult3 : BitVec 32 :=
  let c9984_i32 : BitVec 32 := 9984#32
  c9984_i32
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x10112 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10112x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S79x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S128x1x10112 : Shape := ⟨3, ![128, 1, 10112]⟩
abbrev S10112x4080 : Shape := ⟨2, ![10112, 4080]⟩
abbrev S79x32640 : Shape := ⟨2, ![79, 32640]⟩
abbrev S79x4080x8 : Shape := ⟨3, ![79, 4080, 8]⟩
abbrev S_ : Shape := ⟨0, ![]⟩
abbrev S79x4080x1 : Shape := ⟨3, ![79, 4080, 1]⟩
abbrev S79x4080 : Shape := ⟨2, ![79, 4080]⟩
abbrev S79x128x4080 : Shape := ⟨3, ![79, 128, 4080]⟩
abbrev S79x1x4080 : Shape := ⟨3, ![79, 1, 4080]⟩
abbrev S128x1x4080 : Shape := ⟨3, ![128, 1, 4080]⟩
abbrev S128x1x4080x1 : Shape := ⟨4, ![128, 1, 4080, 1]⟩
abbrev S128x1x4080x8 : Shape := ⟨4, ![128, 1, 4080, 8]⟩
abbrev S128x1x32640 : Shape := ⟨3, ![128, 1, 32640]⟩

abbrev nBuf : Space → Nat
  | .hbm => 135
  | .vmem => 0
  | .smem => 0
  | _ => 0

abbrev hbmTy0_0 (i : Nat) : BufTy := match i % 128 with
  | 0 => ⟨S128x1x10112, .bf16⟩
  | 1 => ⟨S10112x4080, .i32⟩
  | 2 => ⟨S79x32640, .bf16⟩
  | 3 => ⟨S79x4080x8, .bf16⟩
  | 4 => ⟨S_, .i32⟩
  | 5 => ⟨S10112x4080, .i32⟩
  | 6 => ⟨S10112x4080, .i32⟩
  | 7 => ⟨S_, .i32⟩
  | 8 => ⟨S10112x4080, .i32⟩
  | 9 => ⟨S10112x4080, .i32⟩
  | 10 => ⟨S10112x4080, .bf16⟩
  | 11 => ⟨S79x4080x1, .bf16⟩
  | 12 => ⟨S79x4080, .bf16⟩
  | 13 => ⟨S79x128x4080, .bf16⟩
  | 14 => ⟨S79x1x4080, .bf16⟩
  | 15 => ⟨S79x128x4080, .bf16⟩
  | 16 => ⟨S79x128x4080, .bf16⟩
  | 17 => ⟨S10112x4080, .bf16⟩
  | 18 => ⟨S128x1x4080, .f32⟩
  | 19 => ⟨S_, .i32⟩
  | 20 => ⟨S10112x4080, .i32⟩
  | 21 => ⟨S10112x4080, .i32⟩
  | 22 => ⟨S_, .i32⟩
  | 23 => ⟨S10112x4080, .i32⟩
  | 24 => ⟨S10112x4080, .i32⟩
  | 25 => ⟨S10112x4080, .bf16⟩
  | 26 => ⟨S79x4080x1, .bf16⟩
  | 27 => ⟨S79x4080, .bf16⟩
  | 28 => ⟨S79x128x4080, .bf16⟩
  | 29 => ⟨S79x1x4080, .bf16⟩
  | 30 => ⟨S79x128x4080, .bf16⟩
  | 31 => ⟨S79x128x4080, .bf16⟩
  | 32 => ⟨S10112x4080, .bf16⟩
  | 33 => ⟨S128x1x4080, .f32⟩
  | 34 => ⟨S_, .i32⟩
  | 35 => ⟨S10112x4080, .i32⟩
  | 36 => ⟨S10112x4080, .i32⟩
  | 37 => ⟨S_, .i32⟩
  | 38 => ⟨S10112x4080, .i32⟩
  | 39 => ⟨S10112x4080, .i32⟩
  | 40 => ⟨S10112x4080, .bf16⟩
  | 41 => ⟨S79x4080x1, .bf16⟩
  | 42 => ⟨S79x4080, .bf16⟩
  | 43 => ⟨S79x128x4080, .bf16⟩
  | 44 => ⟨S79x1x4080, .bf16⟩
  | 45 => ⟨S79x128x4080, .bf16⟩
  | 46 => ⟨S79x128x4080, .bf16⟩
  | 47 => ⟨S10112x4080, .bf16⟩
  | 48 => ⟨S128x1x4080, .f32⟩
  | 49 => ⟨S_, .i32⟩
  | 50 => ⟨S10112x4080, .i32⟩
  | 51 => ⟨S10112x4080, .i32⟩
  | 52 => ⟨S_, .i32⟩
  | 53 => ⟨S10112x4080, .i32⟩
  | 54 => ⟨S10112x4080, .i32⟩
  | 55 => ⟨S10112x4080, .bf16⟩
  | 56 => ⟨S79x4080x1, .bf16⟩
  | 57 => ⟨S79x4080, .bf16⟩
  | 58 => ⟨S79x128x4080, .bf16⟩
  | 59 => ⟨S79x1x4080, .bf16⟩
  | 60 => ⟨S79x128x4080, .bf16⟩
  | 61 => ⟨S79x128x4080, .bf16⟩
  | 62 => ⟨S10112x4080, .bf16⟩
  | 63 => ⟨S128x1x4080, .f32⟩
  | 64 => ⟨S_, .i32⟩
  | 65 => ⟨S10112x4080, .i32⟩
  | 66 => ⟨S10112x4080, .i32⟩
  | 67 => ⟨S_, .i32⟩
  | 68 => ⟨S10112x4080, .i32⟩
  | 69 => ⟨S10112x4080, .i32⟩
  | 70 => ⟨S10112x4080, .bf16⟩
  | 71 => ⟨S79x4080x1, .bf16⟩
  | 72 => ⟨S79x4080, .bf16⟩
  | 73 => ⟨S79x128x4080, .bf16⟩
  | 74 => ⟨S79x1x4080, .bf16⟩
  | 75 => ⟨S79x128x4080, .bf16⟩
  | 76 => ⟨S79x128x4080, .bf16⟩
  | 77 => ⟨S10112x4080, .bf16⟩
  | 78 => ⟨S128x1x4080, .f32⟩
  | 79 => ⟨S_, .i32⟩
  | 80 => ⟨S10112x4080, .i32⟩
  | 81 => ⟨S10112x4080, .i32⟩
  | 82 => ⟨S_, .i32⟩
  | 83 => ⟨S10112x4080, .i32⟩
  | 84 => ⟨S10112x4080, .i32⟩
  | 85 => ⟨S10112x4080, .bf16⟩
  | 86 => ⟨S79x4080x1, .bf16⟩
  | 87 => ⟨S79x4080, .bf16⟩
  | 88 => ⟨S79x128x4080, .bf16⟩
  | 89 => ⟨S79x1x4080, .bf16⟩
  | 90 => ⟨S79x128x4080, .bf16⟩
  | 91 => ⟨S79x128x4080, .bf16⟩
  | 92 => ⟨S10112x4080, .bf16⟩
  | 93 => ⟨S128x1x4080, .f32⟩
  | 94 => ⟨S_, .i32⟩
  | 95 => ⟨S10112x4080, .i32⟩
  | 96 => ⟨S10112x4080, .i32⟩
  | 97 => ⟨S_, .i32⟩
  | 98 => ⟨S10112x4080, .i32⟩
  | 99 => ⟨S10112x4080, .i32⟩
  | 100 => ⟨S10112x4080, .bf16⟩
  | 101 => ⟨S79x4080x1, .bf16⟩
  | 102 => ⟨S79x4080, .bf16⟩
  | 103 => ⟨S79x128x4080, .bf16⟩
  | 104 => ⟨S79x1x4080, .bf16⟩
  | 105 => ⟨S79x128x4080, .bf16⟩
  | 106 => ⟨S79x128x4080, .bf16⟩
  | 107 => ⟨S10112x4080, .bf16⟩
  | 108 => ⟨S128x1x4080, .f32⟩
  | 109 => ⟨S_, .i32⟩
  | 110 => ⟨S10112x4080, .i32⟩
  | 111 => ⟨S10112x4080, .i32⟩
  | 112 => ⟨S_, .i32⟩
  | 113 => ⟨S10112x4080, .i32⟩
  | 114 => ⟨S10112x4080, .i32⟩
  | 115 => ⟨S10112x4080, .bf16⟩
  | 116 => ⟨S79x4080x1, .bf16⟩
  | 117 => ⟨S79x4080, .bf16⟩
  | 118 => ⟨S79x128x4080, .bf16⟩
  | 119 => ⟨S79x1x4080, .bf16⟩
  | 120 => ⟨S79x128x4080, .bf16⟩
  | 121 => ⟨S79x128x4080, .bf16⟩
  | 122 => ⟨S10112x4080, .bf16⟩
  | 123 => ⟨S128x1x4080, .f32⟩
  | 124 => ⟨S128x1x4080x1, .f32⟩
  | 125 => ⟨S128x1x4080x1, .f32⟩
  | 126 => ⟨S128x1x4080x1, .f32⟩
  | 127 => ⟨S128x1x4080x1, .f32⟩
  | _ => ⟨S128x1x10112, .bf16⟩

abbrev hbmTy0_1 (i : Nat) : BufTy := match i % 128 with
  | 0 => ⟨S128x1x4080x1, .f32⟩
  | 1 => ⟨S128x1x4080x1, .f32⟩
  | 2 => ⟨S128x1x4080x1, .f32⟩
  | 3 => ⟨S128x1x4080x1, .f32⟩
  | 4 => ⟨S128x1x4080x8, .f32⟩
  | 5 => ⟨S128x1x32640, .f32⟩
  | 6 => ⟨S128x1x32640, .bf16⟩
  | _ => ⟨S128x1x10112, .bf16⟩

abbrev hbmTy (i : Nat) : BufTy := match i / 128 with
  | 0 => hbmTy0_0 i
  | 1 => hbmTy0_1 i
  | _ => ⟨S128x1x10112, .bf16⟩

abbrev bufTy : (tb : Table) → Fin (tcTables nBuf tb) → BufTy
  | .hbm, ⟨i, _⟩ => hbmTy i
  | _, _ => ⟨S128x1x10112, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_c_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_c_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_5 : Ref sig .tc := ⟨.hbm, 49, rfl⟩
abbrev main_v40 : Ref sig .tc := ⟨.hbm, 50, rfl⟩
abbrev main_v41 : Ref sig .tc := ⟨.hbm, 51, rfl⟩
abbrev main_c_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_c_7 : Ref sig .tc := ⟨.hbm, 64, rfl⟩
abbrev main_v53 : Ref sig .tc := ⟨.hbm, 65, rfl⟩
abbrev main_v54 : Ref sig .tc := ⟨.hbm, 66, rfl⟩
abbrev main_c_8 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c_9 : Ref sig .tc := ⟨.hbm, 79, rfl⟩
abbrev main_v66 : Ref sig .tc := ⟨.hbm, 80, rfl⟩
abbrev main_v67 : Ref sig .tc := ⟨.hbm, 81, rfl⟩
abbrev main_c_10 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_c_11 : Ref sig .tc := ⟨.hbm, 94, rfl⟩
abbrev main_v79 : Ref sig .tc := ⟨.hbm, 95, rfl⟩
abbrev main_v80 : Ref sig .tc := ⟨.hbm, 96, rfl⟩
abbrev main_c_12 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_c_13 : Ref sig .tc := ⟨.hbm, 109, rfl⟩
abbrev main_v92 : Ref sig .tc := ⟨.hbm, 110, rfl⟩
abbrev main_v93 : Ref sig .tc := ⟨.hbm, 111, rfl⟩
abbrev main_c_14 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩

abbrev nD : Nat := 1
abbrev τ : Topo := Topo.v7x

variable {F : FTy → Type} [FloatOps F]
-- ==== Proof.KernelBody.lean ====
/-
  The body of the compiled kernel, run once over memrefs that hold anything: it reads the three input buffers, leaves
  them as they were, and leaves the output buffer and the three scratch buffers at contents this module does not name.
  The chunk loop is gone through by its invariant (`loopInv`): the inputs and the scales scratch unchanged, the weight
  scratch at some contents.
-/
module

public import proofs.«01_k».proof.Proof.Gen.Kernel
public import proofs.«01_k».proof.Proof.Gen.Kernel.Skeleton
public import proofs.«01_k».proof.Proof.Gen.Kernel.Loops
public import Idealize.ShloMosaic.Lib.Tactic
public import Idealize.ShloMosaic.Lib.Pipeline.Kit

@[expose] public section

set_option maxRecDepth 16384
set_option warn.classDefReducibility false

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- The kernel's variants: none. -/
abbrev 𝒱₀ : Variants := Variants.none

/-! ## The weight scratch's offsets at trip `k`: slot `(k + 1) % 4` -/

theorem off4_eq : ∀ k : Fin k0_t1_loop.trips, k0_off4 k = ![(k.val + 1) % 4, 0, 0, 0] := by decide +kernel
theorem off6_eq : ∀ k : Fin k0_t1_loop.trips, k0_off6 k = ![(k.val + 1) % 4, 1, 0, 0] := by decide +kernel
theorem off7_eq : ∀ k : Fin k0_t1_loop.trips, k0_off7 k = ![(k.val + 1) % 4, 0, 256, 0] := by decide +kernel
theorem off8_eq : ∀ k : Fin k0_t1_loop.trips, k0_off8 k = ![(k.val + 1) % 4, 1, 256, 0] := by decide +kernel
theorem off10_eq : ∀ k : Fin k0_t1_loop.trips, k0_off10 k = ![(k.val + 1) % 4, 0, 0, 0] := by decide +kernel
theorem off11_eq : ∀ k : Fin k0_t1_loop.trips, k0_off11 k = ![(k.val + 1) % 4, 0, 1, 0] := by decide +kernel
theorem off12_eq : ∀ k : Fin k0_t1_loop.trips, k0_off12 k = ![(k.val + 1) % 4, 0, 2, 0] := by decide +kernel
theorem off13_eq : ∀ k : Fin k0_t1_loop.trips, k0_off13 k = ![(k.val + 1) % 4, 0, 3, 0] := by decide +kernel
theorem off14_eq : ∀ k : Fin k0_t1_loop.trips, k0_off14 k = ![(k.val + 1) % 4, 1, 0, 0] := by decide +kernel
theorem off15_eq : ∀ k : Fin k0_t1_loop.trips, k0_off15 k = ![(k.val + 1) % 4, 1, 1, 0] := by decide +kernel
theorem off16_eq : ∀ k : Fin k0_t1_loop.trips, k0_off16 k = ![(k.val + 1) % 4, 1, 2, 0] := by decide +kernel
theorem off17_eq : ∀ k : Fin k0_t1_loop.trips, k0_off17 k = ![(k.val + 1) % 4, 1, 3, 0] := by decide +kernel

instance (k : Fin k0_t1_loop.trips) : ClosedOff (k0_off4 k) := ⟨_, off4_eq k⟩
instance (k : Fin k0_t1_loop.trips) : ClosedOff (k0_off6 k) := ⟨_, off6_eq k⟩
instance (k : Fin k0_t1_loop.trips) : ClosedOff (k0_off7 k) := ⟨_, off7_eq k⟩
instance (k : Fin k0_t1_loop.trips) : ClosedOff (k0_off8 k) := ⟨_, off8_eq k⟩
instance (k : Fin k0_t1_loop.trips) : ClosedOff (k0_off10 k) := ⟨_, off10_eq k⟩
instance (k : Fin k0_t1_loop.trips) : ClosedOff (k0_off11 k) := ⟨_, off11_eq k⟩
instance (k : Fin k0_t1_loop.trips) : ClosedOff (k0_off12 k) := ⟨_, off12_eq k⟩
instance (k : Fin k0_t1_loop.trips) : ClosedOff (k0_off13 k) := ⟨_, off13_eq k⟩
instance (k : Fin k0_t1_loop.trips) : ClosedOff (k0_off14 k) := ⟨_, off14_eq k⟩
instance (k : Fin k0_t1_loop.trips) : ClosedOff (k0_off15 k) := ⟨_, off15_eq k⟩
instance (k : Fin k0_t1_loop.trips) : ClosedOff (k0_off16 k) := ⟨_, off16_eq k⟩
instance (k : Fin k0_t1_loop.trips) : ClosedOff (k0_off17 k) := ⟨_, off17_eq k⟩

/-- A memref's contents on core `c`, and the memref held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-! ## The chunk loop -/

/-- Before every trip: the inputs and the scales scratch as they were, the weight scratch at some contents. -/
@[sl_loop] def loopInv (c : Dev nD) (i : grid0.Coords) (arg1 : Memref sig .tc .vmem S128x10112 .bf16) (harg1 : arg1.IsWhole) (arg2 : Memref sig .tc .vmem S10112x128 .i32) (harg2 : arg2.IsWhole) (arg3 : Memref sig .tc .vmem S79x1024 .bf16) (harg3 : arg3.IsWhole) (arg4 : Memref sig .tc .vmem S128x1024 .bf16) (harg4 : arg4.IsWhole) (arg5 : Memref sig .tc .vmem S1024x128 .f32) (harg5 : arg5.IsWhole) (arg6 : Memref sig .tc .vmem S2x640x128 .i32) (harg6 : arg6.IsWhole) (arg7 : Memref sig .tc .vmem S4x2x512x128 .i32) (harg7 : arg7.IsWhole) (v223 : FVec F S128x256 .bf16) (v231 : FVec F S128x256 .f32) (v239 : FVec F S128x256 .f32) (v242 : FVec F S256x128 .bf16) (init : FVec F S128x256 .f32 × FVec F S128x256 .f32 × FVec F S128x256 .f32 × FVec F S128x256 .f32)
    (f1 : Bf (F := F) c arg1) (f2 : Bf (F := F) c arg2) (f6 : Bf (F := F) c arg6) :
    LoopInvTy_k0_t1 (F := F) Unit ℕ (UR sig nD τ) ℕ 𝒱₀ c none Set.univ i arg1 harg1 arg2 harg2 arg3 harg3 arg4 harg4 arg5 harg5 arg6 harg6 arg7 harg7 v223 v231 v239 v242 init where
  inv := fun _ _ => iprop(pt c arg1 f1 ∗ pt c arg2 f2 ∗ pt c arg6 f6 ∗ ∃ f7, pt c arg7 f7)
  step := fun k acc => by
    obtain ⟨a9, a10, a11, a12⟩ := acc
    unfold k0_t1_body
    iintro ⟨H1, H2, H6, ⟨%f7, H7⟩⟩
    sl_exec
    sl_step
    sl_close

/-- The whole body: from the seven buffers at any contents, it runs to its return with the inputs unchanged. -/
theorem sound_kernel (c : Dev nD) (i : grid0.Coords) (arg1 : Memref sig .tc .vmem S128x10112 .bf16) (harg1 : arg1.IsWhole) (arg2 : Memref sig .tc .vmem S10112x128 .i32) (harg2 : arg2.IsWhole) (arg3 : Memref sig .tc .vmem S79x1024 .bf16) (harg3 : arg3.IsWhole) (arg4 : Memref sig .tc .vmem S128x1024 .bf16) (harg4 : arg4.IsWhole) (arg5 : Memref sig .tc .vmem S1024x128 .f32) (harg5 : arg5.IsWhole) (arg6 : Memref sig .tc .vmem S2x640x128 .i32) (harg6 : arg6.IsWhole) (arg7 : Memref sig .tc .vmem S4x2x512x128 .i32) (harg7 : arg7.IsWhole)
    (f1 : Bf (F := F) c arg1) (f2 : Bf (F := F) c arg2) (f3 : Bf (F := F) c arg3) (f4 : Bf (F := F) c arg4)
    (f5 : Bf (F := F) c arg5) (f6 : Bf (F := F) c arg6) (f7 : Bf (F := F) c arg7) (K : PUnit → sProp 𝕄) :
    iprop((pt c arg1 f1 ∗ pt c arg2 f2 ∗ pt c arg3 f3 ∗ pt c arg4 f4 ∗ pt c arg5 f5 ∗ pt c arg6 f6 ∗ pt c arg7 f7)
      ∗ ((pt c arg1 f1 ∗ pt c arg2 f2 ∗ pt c arg3 f3 ∗ (∃ f4, pt c arg4 f4) ∗ (∃ f5, pt c arg5 f5) ∗ (∃ f6, pt c arg6 f6) ∗ (∃ f7, pt c arg7 f7)) -∗ K ⟨⟩))
      ⊢ wp frame (wpE (defs₀ (F := F)) 𝒱₀ c none) Set.univ
          (cc0_awq_int4_linear i arg1 harg1 arg2 harg2 arg3 harg3 arg4 harg4 arg5 harg5 arg6 harg6 arg7 harg7) K := by
  simp only [cc0_awq_int4_linear_eq_skeleton]; unfold cc0_awq_int4_linear_skel
  iintro ⟨⟨H1, H2, H3, H4, H5, H6, H7⟩, Hk⟩
  sl_exec
  sl_step
  iapply Hk
  sl_close

end Cert.Proof.KernelFrame

end
-- ==== Proof.KernelRun.lean ====
/-
  The compiled kernel's frame: the pipeline's four windows hold anything before and after every grid point (the body reads
  them and never depends on what they hold), so every execution terminates with the argument arrays as launched and every
  semaphore counter back at zero.
-/
module

public import proofs.«01_k».proof.Proof.KernelBody
public import proofs.«01_k».proof.Proof.Gen.Kernel.Frame
public import Idealize.ShloMosaic.Lib.Pipeline.FrameSuffix
public import Idealize.ShloMosaic.Lib.Tactic

@[expose] public section

set_option maxRecDepth 16384

noncomputable section

namespace Cert.Proof.KernelFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Every window is forgotten: nothing here reads what a staging buffer holds. -/
def forgets (_ : Fin 4) : Bool := true

/-- The proof data: the arrays as the region finds them, what the body leaves unnamed, the scratch buffers at any
    contents between the points, full shares, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The three scratch buffers at any contents, and the generator register at any state. -/
theorem Phi_eq (c : Dev nD) : (Pipeline.ΦA spec0 c : sProp 𝕄)
    = iprop(((∃ f, pt (F := F) c (Memref.whole cc0_scratch0) f) ∗ (∃ f, pt (F := F) c (Memref.whole cc0_scratch1) f)
        ∗ (∃ f, pt (F := F) c (Memref.whole cc0_scratch2) f)) ∗ ∃ r, prngReg c r) := by
  unfold Pipeline.ΦA; rw [scopedRest0_eq]

/-- Owning a whole memref at any contents is its points-to at any contents. -/
theorem owns_any (c : Dev nD) {sp : Space} {S : Shape} {e : EltTy} (M : Memref sig .tc sp S e) (h : M.IsWhole) :
    (iprop(∃ d, owns (c : Thread nD τ) M fullShare d) : sProp 𝕄) = iprop(∃ f, pt (F := F) c M f) := by
  have h₁ : (iprop(∃ d, owns (c : Thread nD τ) M fullShare d) : sProp 𝕄) ⊢ iprop(∃ f, pt (F := F) c M f) := by
    unfold owns pt; rw [h.set_eq_univ]
    iintro ⟨%d, %f, -, H⟩; iexists f; iexact H
  have h₂ : (iprop(∃ f, pt (F := F) c M f) : sProp 𝕄) ⊢ iprop(∃ d, owns (c : Thread nD τ) M fullShare d) := by
    unfold owns pt; rw [h.set_eq_univ]
    iintro ⟨%f, H⟩; iexists _, f; isplitr; · ipureintro; rfl
    iexact H
  exact BI.Entails.antisymm h₁ h₂

/-- What the body is called with at a point, and what it returns: the scratch buffers and each window's buffer at anything. -/
def bodyState (c : Dev nD) (t t' : Fin (cfg0.N + 1)) (s : Fin cfg0.N) : sProp 𝕄 :=
  iprop((dats m 0 c).Φ t ∗ (dats m 0 c).owesAt () t'
    ∗ (∃ d, owns (c : Thread nD τ) (st0_0 s) fullShare d) ∗ (∃ d, owns (c : Thread nD τ) (st0_1 s) fullShare d)
    ∗ (∃ d, owns (c : Thread nD τ) (st0_2 s) fullShare d) ∗ (∃ d, owns (c : Thread nD τ) (st0_3 s) fullShare d))

theorem sound_body (c : Dev nD) (t : Fin cfg0.N) :
    bodyState m c t.castSucc t.castSucc t
      ⊢ wp frame (wpE (defs₀ (F := F)) 𝒱₀ c none) Set.univ (bodyAt0 t) (fun _ => bodyState m c t.succ t.succ t) := by
  unfold bodyState
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  rw [owns_any c (st0_0 t) (hstage0_0 ((cfg0.slots t 0).cast nbuf0_0)), owns_any c (st0_1 t) (hstage0_1 ((cfg0.slots t 1).cast nbuf0_1)),
    owns_any c (st0_2 t) (hstage0_2 ((cfg0.slots t 2).cast nbuf0_2)), owns_any c (st0_3 t) (hstage0_3 ((cfg0.slots t 3).cast nbuf0_3))]
  iintro ⟨⟨⟨⟨%f5, H5⟩, ⟨%f6, H6⟩, ⟨%f7, H7⟩⟩, Hg⟩, HO, ⟨%f1, H1⟩, ⟨%f2, H2⟩, ⟨%f3, H3⟩, ⟨%f4, H4⟩⟩
  iapply (sound_kernel c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) f1 f2 f3 f4 f5 f6 f7)
  isplitl [H1 H2 H3 H4 H5 H6 H7]
  · sl_close
  iintro ⟨H1, H2, H3, H4, H5, H6, H7⟩
  isplitl [H5 H6 H7 Hg]
  · isplitl [H5 H6 H7]
    · isplitl [H5]; · iexact H5
      isplitl [H6]; · iexact H6
      iexact H7
    iexact Hg
  isplitl [HO]; · iexact HO
  isplitl [H1]; · iexists _; iexact H1
  isplitl [H2]; · iexists _; iexact H2
  isplitl [H3]; · iexists _; iexact H3
  iexact H4

theorem defs₀_row (t : Fin cfg0.N) : defs₀ (F := F) .tc cfg0.body (cfg0.bodyArgs t (cfg0.slots t)) = bodyAt0 t := by
  unfold defs₀; rw [Defs.onTc_tc]

/-- The library's body obligation, every window forgotten. -/
theorem body_obligation (c : Dev nD) :
    BodyObligationLoose (dats (F := F) m 0 c) (defs₀ (F := F)) 𝒱₀ () Set.univ forgets := fun t => by
  rw [bigSep_W0, bigSep_W0, defs₀_row]
  exact triple_restated (sound_body m c t) rfl .rfl fun _ => .rfl

set_option backward.isDefEq.respectTransparency.types false in
/-- Every execution terminates; the windows' arrays are as their write-backs leave them, every buffer outside the pipeline
    but the reshaped result is as the region finds it, and every semaphore counter is zero. -/
theorem run_main :
    θ_run defs (onTc (τ := τ) (main (F := F))) (s₀ m ρ)
      (fun r => Pipeline.RDat.FramePostR (cfgs 0) (fun c => (dats m 0 c).toRForget forgets) {main_v2} (V m) r ∧ r.2.sem = fun _ => 0) :=
  Pipeline.θ_run_frame_around_T_forget (Q' := _) cfgs (dats m) (0 : Fin 1) launch0 defs₀ 𝒱₀ forgets {main_v2} m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hT := by
      intro ops hops op hop b hb
      simp only [List.mem_cons, List.mem_nil_iff, or_false] at hops
      rcases hops with rfl
      simp only [hostOps1, List.mem_cons, List.mem_nil_iff, or_false] at hop
      rcases hop with rfl
      simp only [StableHlo.reshape_writes, Finset.mem_singleton] at hb
      rw [Finset.mem_singleton]
      by_contra hne
      exact StableHlo.devRef_ne_of_ne hne hb)
    (hmain := hmain m 𝒱₀) (hA := A_eq m) (hΦ := fun _ _ => rfl) (hQ' := fun _ h => h)

/-- The frame claim of the compiled kernel. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
      ⟨((h.1 c).2 main_arg0 (Finset.mem_sdiff.2 ⟨Pipeline.mem_restRefs_of main_arg0 (by decide) (by decide), by decide⟩)).trans (V_main_arg0 m c),
       (Pipeline.RDat.FramePostR.arr_in h.1 c 1 rfl).trans (V_main_arg1 m c),
       (Pipeline.RDat.FramePostR.arr_in h.1 c 2 rfl).trans (V_main_arg2 m c)⟩, h.2⟩) (run_main m ρ)

end Cert.Proof.KernelFrame

end
-- ==== Proof.Chunk.lean ====
/-
  One chunk of the weight matrix, dequantised and multiplied, at exact arithmetic. A chunk is 256 rows of packed words (two
  scale groups of 128 rows); the last one is 128 rows. `deq` is what a group's dequantisation stores; `wt` is the weight it
  stands for, by row, field and lane; `accV` is what an accumulator holds after a number of rows; the `step` theorems say
  that one chunk's product takes it from one chunk to the next.
-/
module

public import proofs.«01_k».proof.Proof.Gen.KernelIdeal.Skeleton
public import Idealize.ShloMosaic.Lib.Pointwise
public import Idealize.ShloMosaic.Lib.Bf16Pair
public import Idealize.ShloMosaic.Lib.BitcastFour

@[expose] public section

noncomputable section

namespace Cert.Proof.Chunk

open Idealize Idealize.ShloMosaic Cert.KernelIdeal Cert.KernelIdeal.Gen

/-- The signed four-bit field `j` (bits `4j … 4j + 3`) of a word, as a number. -/
def nibble (w : BitVec 32) (j : ℕ) : EReal := (((((w >>> (4 * j)).setWidth 4 : BitVec 4)).toInt : ℝ) : EReal)

/-- The low four bits of byte row `p` of a column of words: field `2 (p % 4)` of word row `p / 4`. -/
theorem setWidth_bitcast (A : Vec Ideal S64x128 .i32) (h : S64x128.Bitcasts 32 S256x128 8) (p : Fin 256) (l : Fin 128) :
    BitVec.setWidth 4 (bitcast S256x128 8 A h (ix2 p l))
      = BitVec.setWidth 4 (A (ix2 ⟨p.val / 4, by omega⟩ l) >>> (4 * (2 * (p.val % 4)))) := by
  apply BitVec.eq_of_getLsbD_eq
  intro q hq
  rw [BitVec.getLsbD_setWidth, BitVec.getLsbD_setWidth, bitcast_getLsbD A h _ q (by omega) (by decide), BitVec.getLsbD_ushiftRight]
  have hrow : S256x128.row (ix2 p l) = p.val := rfl
  have e : h.srcIdx (ix2 p l) ((S256x128.row (ix2 p l) * 8 + q) / 32) (fun a ha => (Nat.div_lt_iff_lt_mul (by decide)).2 (h.pos_lt _ q (by omega) a ha))
      = ix2 ⟨p.val / 4, by omega⟩ l := by
    funext a
    match a with
    | ⟨0, _⟩ => apply Fin.ext; show (S256x128.row (ix2 p l) * 8 + q) / 32 = p.val / 4; rw [hrow]; omega
    | ⟨1, _⟩ => rfl
  rw [e, hrow]
  congr 2
  omega

/-- One group of 128 rows, dequantised: the even rows `A` and the odd rows `B` of its words, the scales `S` its 16-row period
    is multiplied by, as a pair of rows per stored word. -/
def deq (A B : Vec Ideal S64x128 .i32) (S : Vec Ideal S1x8x2x128 .bf16) : Vec Ideal S1x1x256x2x128 .bf16 :=
  k0_pay7 (k0_pay5 A B S) (k0_pay6 A B S)

/-- The low fields: stored row `r`, half `f`, lane `l` is field `2 (r % 4)` of word row `r / 4` of `A` or `B`, times the scale. -/
theorem deq_apply (A B : Vec Ideal S64x128 .i32) (S : Vec Ideal S1x8x2x128 .bf16) (r : Fin 256) (f : Fin 2) (l : Fin 128) :
    deq A B S (ix5 0 0 r f l)
      = nibble (if f = 0 then A (ix2 ⟨r.val / 4, by omega⟩ l) else B (ix2 ⟨r.val / 4, by omega⟩ l)) (2 * (r.val % 4))
        * S (ix4 0 ⟨r.val % 8, by omega⟩ f l) := by
  pointwise [deq, k0_pay7, k0_pay5, k0_pay6, k0_pay4]
  simp only [setWidth_bitcast]
  rcases Fin.exists_fin_two.mp ⟨f, rfl⟩ with rfl | rfl
  · have e : (⟨2 * r.val % 16 / 2, by omega⟩ : Fin 8) = ⟨r.val % 8, by omega⟩ := Fin.ext (by show 2 * r.val % 16 / 2 = r.val % 8; omega)
    rw [if_pos (show ((0 : Fin 2) : ℕ) % 2 = 0 from rfl), dif_pos (by omega), if_pos (show 2 * r.val % 16 % 2 = 0 by omega), if_pos (show (0 : Fin 2) = 0 from rfl), e]
    rfl
  · have e : (⟨(2 * r.val + 1) % 16 / 2, by omega⟩ : Fin 8) = ⟨r.val % 8, by omega⟩ := Fin.ext (by show (2 * r.val + 1) % 16 / 2 = r.val % 8; omega)
    rw [if_neg (show ¬ ((1 : Fin 2) : ℕ) % 2 = 0 by decide), dif_neg (by omega), if_neg (show ¬ (2 * r.val + 1) % 16 % 2 = 0 by omega), if_neg (show ¬ (1 : Fin 2) = 0 by decide), e]
    rfl

/-- The high fields: the same of the words shifted down by one field. -/
theorem deq_shr_apply (A B : Vec Ideal S64x128 .i32) (S : Vec Ideal S1x8x2x128 .bf16) (r : Fin 256) (f : Fin 2) (l : Fin 128) :
    deq (shrui A (broadcast S64x128 4#32)) (shrui B (broadcast S64x128 4#32)) S (ix5 0 0 r f l)
      = nibble (if f = 0 then A (ix2 ⟨r.val / 4, by omega⟩ l) else B (ix2 ⟨r.val / 4, by omega⟩ l)) (2 * (r.val % 4) + 1)
        * S (ix4 0 ⟨r.val % 8, by omega⟩ f l) := by
  rw [deq_apply]
  have e : ∀ (W : Vec Ideal S64x128 .i32) (i : S64x128.Idx), nibble (shrui W (broadcast S64x128 4#32) i) (2 * (r.val % 4)) = nibble (W i) (2 * (r.val % 4) + 1) := by
    intro W i
    have h : shrui W (broadcast S64x128 4#32) i = W i >>> 4 := rfl
    unfold nibble
    rw [h, ← BitVec.shiftRight_add, show 4 + 4 * (2 * (r.val % 4)) = 4 * (2 * (r.val % 4) + 1) by omega]
  rcases Fin.exists_fin_two.mp ⟨f, rfl⟩ with rfl | rfl
  · exact congrArg (· * _) (e A _)
  · exact congrArg (· * _) (e B _)

/-- The dequantised weight: field `2k + par` of the word at row `kk`, lane `l`, times the scale the scale buffer holds for it. -/
def wt (Q : ℕ → ℕ → BitVec 32) (S6 : ℕ → ℕ → ℕ → ℕ → EReal) (par k kk l : ℕ) : EReal :=
  nibble (Q kk l) (2 * k + par) * S6 par (8 * (kk / 128) + 4 * ((kk / 2) % 2) + k) (kk % 2) l

/-- Group `g`'s weights of one parity, as they are stored. -/
def wtOf (Q : ℕ → ℕ → BitVec 32) (S6 : ℕ → ℕ → ℕ → ℕ → EReal) (par g : ℕ) (x : S1x1x256x2x128.Idx) : EReal :=
  wt Q S6 par ((x 2).val % 4) (128 * g + 2 * ((x 2).val / 4) + (x 3).val) (x 4).val

variable {Q : ℕ → ℕ → BitVec 32} {S6 : ℕ → ℕ → ℕ → ℕ → EReal} {X : ℕ → ℕ → EReal}

theorem wtOf_ix5 (par g : ℕ) (r : Fin 256) (f : Fin 2) (l : Fin 128) :
    wtOf Q S6 par g (ix5 0 0 r f l)
      = nibble (Q (128 * g + 2 * (r.val / 4) + f.val) l.val) (2 * (r.val % 4) + par) * S6 par (8 * g + r.val % 8) f.val l.val := by
  show wt Q S6 par (r.val % 4) (128 * g + 2 * (r.val / 4) + f.val) l.val = _
  have hf := f.isLt
  have hr := r.isLt
  unfold wt
  rw [show 8 * ((128 * g + 2 * (r.val / 4) + f.val) / 128) + 4 * ((128 * g + 2 * (r.val / 4) + f.val) / 2 % 2) + r.val % 4
      = 8 * g + r.val % 8 by omega, show (128 * g + 2 * (r.val / 4) + f.val) % 2 = f.val by omega]

/-- The even fields of group `g`: the stored words are `wtOf`. -/
theorem deq_eq_wtOf (g : ℕ) (A B : Vec Ideal S64x128 .i32) (S : Vec Ideal S1x8x2x128 .bf16)
    (hA : ∀ (w : Fin 64) (l : Fin 128), A (ix2 w l) = Q (128 * g + 2 * w.val) l.val)
    (hB : ∀ (w : Fin 64) (l : Fin 128), B (ix2 w l) = Q (128 * g + 2 * w.val + 1) l.val)
    (hS : ∀ (r : Fin 8) (f : Fin 2) (l : Fin 128), S (ix4 0 r f l) = S6 0 (8 * g + r.val) f.val l.val) :
    deq A B S = wtOf Q S6 0 g := by
  funext x
  idx_vars x
  obtain rfl : x0 = 0 := Subsingleton.elim _ _
  obtain rfl : x1 = 0 := Subsingleton.elim _ _
  rw [deq_apply, hA, hB, hS, wtOf_ix5]
  rcases Fin.exists_fin_two.mp ⟨x3, rfl⟩ with rfl | rfl <;> rfl

/-- The odd fields of group `g`. -/
theorem deq_shr_eq_wtOf (g : ℕ) (A B : Vec Ideal S64x128 .i32) (S : Vec Ideal S1x8x2x128 .bf16)
    (hA : ∀ (w : Fin 64) (l : Fin 128), A (ix2 w l) = Q (128 * g + 2 * w.val) l.val)
    (hB : ∀ (w : Fin 64) (l : Fin 128), B (ix2 w l) = Q (128 * g + 2 * w.val + 1) l.val)
    (hS : ∀ (r : Fin 8) (f : Fin 2) (l : Fin 128), S (ix4 0 r f l) = S6 1 (8 * g + r.val) f.val l.val) :
    deq (shrui A (broadcast S64x128 4#32)) (shrui B (broadcast S64x128 4#32)) S = wtOf Q S6 1 g := by
  funext x
  idx_vars x
  obtain rfl : x0 = 0 := Subsingleton.elim _ _
  obtain rfl : x1 = 0 := Subsingleton.elim _ _
  rw [deq_shr_apply, hA, hB, hS, wtOf_ix5]
  rcases Fin.exists_fin_two.mp ⟨x3, rfl⟩ with rfl | rfl <;> rfl

/-- An accumulator after `n` rows: columns below 128 are field block `2h`, the others `2h + 1`. -/
def accV (X : ℕ → ℕ → EReal) (Q : ℕ → ℕ → BitVec 32) (S6 : ℕ → ℕ → ℕ → ℕ → EReal) (par h n : ℕ) : FVec Ideal S128x256 .f32 :=
  fun j => ∑ kk ∈ Finset.range n, X (j 0).val kk * wt Q S6 par (2 * h + (j 1).val / 128) kk ((j 1).val % 128)

/-- The right operand's entry: two rows per loaded word, two lane blocks side by side. -/
theorem rhs_eq (W : ℕ → ℕ → ℕ → EReal) (k b n t : ℕ) (hn : n < 256) :
    (if _ : n < 128 then if t % 2 = 0 then W k (b + 2 * (t / 2) + 0) n else W k (b + 2 * (t / 2) + 1) n
      else if t % 2 = 0 then W (k + 1) (b + 2 * (t / 2) + 0) (n - 128) else W (k + 1) (b + 2 * (t / 2) + 1) (n - 128))
    = W (k + n / 128) (b + t) (n % 128) := by
  split
  · rw [show n / 128 = 0 by omega, show n % 128 = n by omega]
    split
    · rw [show b + 2 * (t / 2) + 0 = b + t by omega]; rfl
    · rw [show b + 2 * (t / 2) + 1 = b + t by omega]; rfl
  · rw [show n / 128 = 1 by omega, show n % 128 = n - 128 by omega]
    split
    · rw [show b + 2 * (t / 2) + 0 = b + t by omega]
    · rw [show b + 2 * (t / 2) + 1 = b + t by omega]

/-- An accumulator with chunk `c`'s 256 rows added. -/
def stepV (X : ℕ → ℕ → EReal) (Q : ℕ → ℕ → BitVec 32) (S6 : ℕ → ℕ → ℕ → ℕ → EReal) (par h c : ℕ) (acc : FVec Ideal S128x256 .f32) :
    FVec Ideal S128x256 .f32 :=
  fun j => acc j + ∑ t ∈ Finset.range 256, X (j 0).val (256 * c + t) * wt Q S6 par (2 * h + (j 1).val / 128) (256 * c + t) ((j 1).val % 128)

theorem stepV_accV (par h c : ℕ) : stepV X Q S6 par h c (accV X Q S6 par h (256 * c)) = accV X Q S6 par h (256 * (c + 1)) := by
  funext j
  unfold stepV accV
  rw [show 256 * (c + 1) = 256 * c + 256 by omega, Finset.sum_range_add]

/-- One chunk of 256 rows added to an accumulator. -/
theorem step256 (par h c : ℕ)
    (acc : FVec Ideal S128x256 .f32) (lhs : FVec Ideal S128x256 .bf16) (r0 r1 : Vec Ideal S1x1x128x2x128 .bf16)
    (hl : ∀ (i : Fin 128) (t : Fin 256), lhs (ix2 i t) = X i.val (256 * c + t.val))
    (h0 : ∀ (u : Fin 128) (f : Fin 2) (l : Fin 128), r0 (ix5 0 0 u f l) = wt Q S6 par (2 * h) (256 * c + 2 * u.val + f.val) l.val)
    (h1 : ∀ (u : Fin 128) (f : Fin 2) (l : Fin 128), r1 (ix5 0 0 u f l) = wt Q S6 par (2 * h + 1) (256 * c + 2 * u.val + f.val) l.val) :
    k0_pay17 acc lhs r0 r1 = stepV X Q S6 par h c acc := by
  funext j
  idx_vars j
  pointwise [k0_pay17]
  unfold stepV
  congr 1
  rw [Finset.sum_range]
  refine Finset.sum_congr rfl fun t _ => ?_
  rw [hl]
  simp only [h0, h1]
  congr 1
  exact rhs_eq (wt Q S6 par) (2 * h) (256 * c) j1.val t.val j1.isLt

/-- The first chunk: the accumulator is its product. -/
theorem first256 (par h : ℕ)
    (lhs : FVec Ideal S128x256 .bf16) (r0 r1 : Vec Ideal S1x1x128x2x128 .bf16)
    (hl : ∀ (i : Fin 128) (t : Fin 256), lhs (ix2 i t) = X i.val t.val)
    (h0 : ∀ (u : Fin 128) (f : Fin 2) (l : Fin 128), r0 (ix5 0 0 u f l) = wt Q S6 par (2 * h) (256 * 0 + 2 * u.val + f.val) l.val)
    (h1 : ∀ (u : Fin 128) (f : Fin 2) (l : Fin 128), r1 (ix5 0 0 u f l) = wt Q S6 par (2 * h + 1) (256 * 0 + 2 * u.val + f.val) l.val) :
    k0_pay87 lhs r0 r1 = accV X Q S6 par h (256 * (0 + 1)) := by
  funext j
  idx_vars j
  pointwise [k0_pay87]
  unfold accV
  rw [Finset.sum_range]
  refine Finset.sum_congr rfl fun t _ => ?_
  rw [hl]
  simp only [h0, h1]
  congr 1
  refine (rhs_eq (wt Q S6 par) (2 * h) (256 * 0) j1.val t.val j1.isLt).trans ?_
  rw [Nat.mul_zero, Nat.zero_add]
  rfl

/-- The last chunk, of 128 rows, added to an accumulator. -/
theorem step128 (par h c : ℕ)
    (acc : FVec Ideal S128x256 .f32) (lhs : FVec Ideal S128x128 .bf16) (r0 r1 : Vec Ideal S1x1x64x2x128 .bf16)
    (hacc : acc = accV X Q S6 par h (256 * c))
    (hl : ∀ (i : Fin 128) (t : Fin 128), lhs (ix2 i t) = X i.val (256 * c + t.val))
    (h0 : ∀ (u : Fin 64) (f : Fin 2) (l : Fin 128), r0 (ix5 0 0 u f l) = wt Q S6 par (2 * h) (256 * c + 2 * u.val + f.val) l.val)
    (h1 : ∀ (u : Fin 64) (f : Fin 2) (l : Fin 128), r1 (ix5 0 0 u f l) = wt Q S6 par (2 * h + 1) (256 * c + 2 * u.val + f.val) l.val) :
    k0_pay95 acc lhs r0 r1 = accV X Q S6 par h (256 * c + 128) := by
  funext j
  idx_vars j
  have hacc' := congrFun hacc (ix2 j0 j1)
  pointwise [k0_pay95]
  rw [hacc']
  unfold accV
  rw [Finset.sum_range_add]
  congr 1
  rw [Finset.sum_range]
  refine Finset.sum_congr rfl fun t _ => ?_
  rw [hl]
  simp only [h0, h1]
  congr 1
  exact rhs_eq (wt Q S6 par) (2 * h) (256 * c) j1.val t.val j1.isLt

end Cert.Proof.Chunk

end
-- ==== Proof.Loads.lean ====
/-
  What the body's loads read, at exact arithmetic: a load of an input is the input at the load's rows (`at2`, `at4` read an
  array at plain numbers), and a strided load of the weight scratch, after a chunk's groups are stored there, is one field of
  the chunk's weights in row order (`weights_load`, and `weights_load_last` for the last chunk's one group).
-/
module

public import proofs.«01_k».proof.Proof.Chunk
public import Idealize.ShloMosaic.Lib.Pipeline.ReadBack
public import Idealize.ShloMosaic.Lib.Pipeline.Value

@[expose] public section

noncomputable section

namespace Cert.Proof.Chunk

open Idealize Idealize.ShloMosaic Idealize.SL.Sem Cert.KernelIdeal Cert.KernelIdeal.Gen

/-- A matrix read at two numbers, `d` outside it. -/
def at2 {α : Type} {a b : ℕ} (f : (⟨2, ![a, b]⟩ : Shape).Idx → α) (d : α) (r l : ℕ) : α :=
  if h : r < a ∧ l < b then f (ix2 ⟨r, h.1⟩ ⟨l, h.2⟩) else d

/-- A rank-four array read at four numbers, `d` outside it. -/
def at4 {α : Type} {a b c e : ℕ} (f : (⟨4, ![a, b, c, e]⟩ : Shape).Idx → α) (d : α) (i j k l : ℕ) : α :=
  if h : (i < a ∧ j < b) ∧ (k < c ∧ l < e) then f (ix4 ⟨i, h.1.1⟩ ⟨j, h.1.2⟩ ⟨k, h.2.1⟩ ⟨l, h.2.2⟩) else d

theorem at2_eq {α : Type} {a b : ℕ} (f : (⟨2, ![a, b]⟩ : Shape).Idx → α) (d : α) (y : (⟨2, ![a, b]⟩ : Shape).Idx) {r l : ℕ}
    (h0 : (y 0).val = r) (h1 : (y 1).val = l) : f y = at2 f d r l := by
  have hr : r < a := h0 ▸ (y 0).isLt
  have hl : l < b := h1 ▸ (y 1).isLt
  unfold at2
  rw [dif_pos ⟨hr, hl⟩]
  congr 1
  funext x
  match x with
  | ⟨0, _⟩ => exact Fin.ext h0
  | ⟨1, _⟩ => exact Fin.ext h1

theorem at4_eq {α : Type} {a b c e : ℕ} (f : (⟨4, ![a, b, c, e]⟩ : Shape).Idx → α) (d : α) (y : (⟨4, ![a, b, c, e]⟩ : Shape).Idx)
    {i j k l : ℕ} (h0 : (y 0).val = i) (h1 : (y 1).val = j) (h2 : (y 2).val = k) (h3 : (y 3).val = l) : f y = at4 f d i j k l := by
  have g0 : i < a := h0 ▸ (y 0).isLt
  have g1 : j < b := h1 ▸ (y 1).isLt
  have g2 : k < c := h2 ▸ (y 2).isLt
  have g3 : l < e := h3 ▸ (y 3).isLt
  unfold at4
  rw [dif_pos ⟨⟨g0, g1⟩, ⟨g2, g3⟩⟩]
  congr 1
  funext x
  match x with
  | ⟨0, _⟩ => exact Fin.ext h0
  | ⟨1, _⟩ => exact Fin.ext h1
  | ⟨2, _⟩ => exact Fin.ext h2
  | ⟨3, _⟩ => exact Fin.ext h3

variable {Q : ℕ → ℕ → BitVec 32} {S6 : ℕ → ℕ → ℕ → ℕ → EReal}

/-- What the weight scratch holds at an index once chunk `c` is stored: half `y 3` of word row `y 2`, of parity `y 1`. -/
def wtAt (Q : ℕ → ℕ → BitVec 32) (S6 : ℕ → ℕ → ℕ → ℕ → EReal) (c : ℕ) (y : S4x2x512x2x128.Idx) : EReal :=
  wt Q S6 (y 1).val ((y 2).val % 4) (256 * c + 2 * ((y 2).val / 4) + (y 3).val) (y 4).val

/-- A stored group is its part of `wtAt`. -/
theorem piece_eq (slot par i c : ℕ) {o : Fin 5 → ℕ} (ho : o = ![slot, par, 256 * i, 0, 0])
    (inb : ∀ a, o a + S1x1x256x2x128.size a ≤ S4x2x512x2x128.size a) {P : S1x1x256x2x128.Idx → EReal} (hP : P = wtOf Q S6 par (2 * c + i))
    (x : S1x1x256x2x128.Idx) : P x = wtAt Q S6 c ((Rect.unit (s := S4x2x512x2x128) o S1x1x256x2x128.size inb).emb x) := by
  subst ho hP
  have e1 : (((Rect.unit (s := S4x2x512x2x128) ![slot, par, 256 * i, 0, 0] S1x1x256x2x128.size inb).emb x) 1).val = par := by
    show par + 1 * (x 1).val = par
    have h : (x 1).val < 1 := (x 1).isLt
    omega
  have e2 : (((Rect.unit (s := S4x2x512x2x128) ![slot, par, 256 * i, 0, 0] S1x1x256x2x128.size inb).emb x) 2).val = 256 * i + (x 2).val := by
    show 256 * i + 1 * (x 2).val = _
    omega
  have e3 : (((Rect.unit (s := S4x2x512x2x128) ![slot, par, 256 * i, 0, 0] S1x1x256x2x128.size inb).emb x) 3).val = (x 3).val := by
    show 0 + 1 * (x 3).val = _
    omega
  have e4 : (((Rect.unit (s := S4x2x512x2x128) ![slot, par, 256 * i, 0, 0] S1x1x256x2x128.size inb).emb x) 4).val = (x 4).val := by
    show 0 + 1 * (x 4).val = _
    omega
  unfold wtAt wtOf
  rw [e1, e2, e3, e4, show (256 * i + (x 2).val) % 4 = (x 2).val % 4 by omega,
    show 256 * c + 2 * ((256 * i + (x 2).val) / 4) + (x 3).val = 128 * (2 * c + i) + 2 * ((x 2).val / 4) + (x 3).val by omega]

/-- An index lies in a stored group's rectangle when its slot, its parity and its half of the rows are the group's. -/
theorem mem_piece (slot par i : ℕ) {o : Fin 5 → ℕ} (ho : o = ![slot, par, 256 * i, 0, 0])
    (inb : ∀ a, o a + S1x1x256x2x128.size a ≤ S4x2x512x2x128.size a) (y : S4x2x512x2x128.Idx)
    (h0 : (y 0).val = slot) (h1 : (y 1).val = par) (h2 : 256 * i ≤ (y 2).val) (h2' : (y 2).val < 256 * i + 256) :
    y ∈ (Rect.unit (s := S4x2x512x2x128) o S1x1x256x2x128.size inb).set := by
  subst ho
  rw [Rect.mem_set_unit]
  intro a
  match a with
  | ⟨0, _⟩ => show slot ≤ (y 0).val ∧ (y 0).val < slot + 1; omega
  | ⟨1, _⟩ => show par ≤ (y 1).val ∧ (y 1).val < par + 1; omega
  | ⟨2, _⟩ => show 256 * i ≤ (y 2).val ∧ (y 2).val < 256 * i + 256; omega
  | ⟨3, _⟩ => show 0 ≤ (y 3).val ∧ (y 3).val < 0 + 2; have : (y 3).val < 2 := (y 3).isLt; omega
  | ⟨4, _⟩ => show 0 ≤ (y 4).val ∧ (y 4).val < 0 + 128; have : (y 4).val < 128 := (y 4).isLt; omega

/-- After both groups of chunk `c` are stored at both parities, the strided load at row `k` is field block `k` of parity `par`:
    word `u`, half `f` is row `256 c + 2 u + f`. -/
theorem weights_load {sig : RefSig} {κ : Kind} {sp : Space} (v : View sig κ sp S4x2x512x2x128 .bf16) (slot c : ℕ)
    {o00 o10 o01 o11 : Fin 5 → ℕ} (h00 : o00 = ![slot, 0, 0, 0, 0]) (h10 : o10 = ![slot, 1, 0, 0, 0])
    (h01 : o01 = ![slot, 0, 256, 0, 0]) (h11 : o11 = ![slot, 1, 256, 0, 0])
    (i00 : ∀ a, o00 a + S1x1x256x2x128.size a ≤ S4x2x512x2x128.size a) (i10 : ∀ a, o10 a + S1x1x256x2x128.size a ≤ S4x2x512x2x128.size a)
    (i01 : ∀ a, o01 a + S1x1x256x2x128.size a ≤ S4x2x512x2x128.size a) (i11 : ∀ a, o11 a + S1x1x256x2x128.size a ≤ S4x2x512x2x128.size a)
    {P00 P10 P01 P11 : S1x1x256x2x128.Idx → Elt Ideal .bf16} (e00 : P00 = wtOf Q S6 0 (2 * c + 0)) (e10 : P10 = wtOf Q S6 1 (2 * c + 0))
    (e01 : P01 = wtOf Q S6 0 (2 * c + 1)) (e11 : P11 = wtOf Q S6 1 (2 * c + 1))
    (par k : ℕ) (hk : k < 4) {o : Fin 5 → ℕ} (ho : o = ![slot, par, k, 0, 0])
    (inb : ∀ a, S1x1x128x2x128.size a = 0 ∨ o a + (![1, 1, 4, 1, 1] : Fin 5 → ℕ) a * (S1x1x128x2x128.size a - 1) < S4x2x512x2x128.size a)
    (u : Fin 128) (f : Fin 2) (l : Fin 128) :
    v.readCov (Val := Elt Ideal) [⟨Rect.unit o11 S1x1x256x2x128.size i11, P11⟩, ⟨Rect.unit o01 S1x1x256x2x128.size i01, P01⟩,
      ⟨Rect.unit o10 S1x1x256x2x128.size i10, P10⟩, ⟨Rect.unit o00 S1x1x256x2x128.size i00, P00⟩]
      ⟨o, S1x1x128x2x128.size, ![1, 1, 4, 1, 1], inb⟩ (ix5 0 0 u f l) = wt Q S6 par k (256 * c + 2 * u.val + f.val) l.val := by
  rw [View.readCov_eq_canon']
  have hu := u.isLt
  have hf := f.isLt
  subst ho
  set B : LoadRect S4x2x512x2x128 := ⟨![slot, par, k, 0, 0], S1x1x128x2x128.size, ![1, 1, 4, 1, 1], inb⟩ with hB
  have g0 : (B.idx (ix5 0 0 u f l) 0).val = slot := rfl
  have g1 : (B.idx (ix5 0 0 u f l) 1).val = par := rfl
  have g2 : (B.idx (ix5 0 0 u f l) 2).val = k + 4 * u.val := rfl
  have g3 : (B.idx (ix5 0 0 u f l) 3).val = f.val := by show 0 + 1 * f.val = _; omega
  have g4 : (B.idx (ix5 0 0 u f l) 4).val = l.val := by show 0 + 1 * l.val = _; omega
  have hpar : par < 2 := g1 ▸ (B.idx (ix5 0 0 u f l) 1).isLt
  refine (View.canon_apply_of_pieces (Val := Elt Ideal) (wtAt Q S6 c) _ ?_ (B.idx (ix5 0 0 u f l)) ?_).trans ?_
  · intro p hp x
    simp only [List.mem_cons, List.not_mem_nil, or_false] at hp
    rcases hp with rfl | rfl | rfl | rfl
    exacts [piece_eq slot 1 1 c h11 i11 e11 x, piece_eq slot 0 1 c h01 i01 e01 x, piece_eq slot 1 0 c h10 i10 e10 x,
      piece_eq slot 0 0 c h00 i00 e00 x]
  · rcases (show par = 0 ∨ par = 1 by omega) with hp | hp <;> rcases Nat.lt_or_ge u.val 64 with hu' | hu'
    · exact ⟨_, .tail _ (.tail _ (.tail _ (.head _))), mem_piece slot 0 0 h00 i00 _ g0 (g1.trans hp) (by omega) (by omega)⟩
    · exact ⟨_, .tail _ (.head _), mem_piece slot 0 1 h01 i01 _ g0 (g1.trans hp) (by omega) (by omega)⟩
    · exact ⟨_, .tail _ (.tail _ (.head _)), mem_piece slot 1 0 h10 i10 _ g0 (g1.trans hp) (by omega) (by omega)⟩
    · exact ⟨_, .head _, mem_piece slot 1 1 h11 i11 _ g0 (g1.trans hp) (by omega) (by omega)⟩
  · unfold wtAt
    rw [g1, g2, g3, g4, show (k + 4 * u.val) % 4 = k by omega, show (k + 4 * u.val) / 4 = u.val by omega]

/-- The same for the last chunk, of one group: `64` words a field block. -/
theorem weights_load_last {sig : RefSig} {κ : Kind} {sp : Space} (v : View sig κ sp S4x2x512x2x128 .bf16) (slot c : ℕ)
    {o00 o10 : Fin 5 → ℕ} (h00 : o00 = ![slot, 0, 0, 0, 0]) (h10 : o10 = ![slot, 1, 0, 0, 0])
    (i00 : ∀ a, o00 a + S1x1x256x2x128.size a ≤ S4x2x512x2x128.size a) (i10 : ∀ a, o10 a + S1x1x256x2x128.size a ≤ S4x2x512x2x128.size a)
    {P00 P10 : S1x1x256x2x128.Idx → Elt Ideal .bf16} (e00 : P00 = wtOf Q S6 0 (2 * c + 0)) (e10 : P10 = wtOf Q S6 1 (2 * c + 0))
    (par k : ℕ) (hk : k < 4) {o : Fin 5 → ℕ} (ho : o = ![slot, par, k, 0, 0])
    (inb : ∀ a, S1x1x64x2x128.size a = 0 ∨ o a + (![1, 1, 4, 1, 1] : Fin 5 → ℕ) a * (S1x1x64x2x128.size a - 1) < S4x2x512x2x128.size a)
    (u : Fin 64) (f : Fin 2) (l : Fin 128) :
    v.readCov (Val := Elt Ideal) [⟨Rect.unit o10 S1x1x256x2x128.size i10, P10⟩, ⟨Rect.unit o00 S1x1x256x2x128.size i00, P00⟩]
      ⟨o, S1x1x64x2x128.size, ![1, 1, 4, 1, 1], inb⟩ (ix5 0 0 u f l) = wt Q S6 par k (256 * c + 2 * u.val + f.val) l.val := by
  rw [View.readCov_eq_canon']
  have hu := u.isLt
  have hf := f.isLt
  subst ho
  set B : LoadRect S4x2x512x2x128 := ⟨![slot, par, k, 0, 0], S1x1x64x2x128.size, ![1, 1, 4, 1, 1], inb⟩ with hB
  have g0 : (B.idx (ix5 0 0 u f l) 0).val = slot := rfl
  have g1 : (B.idx (ix5 0 0 u f l) 1).val = par := rfl
  have g2 : (B.idx (ix5 0 0 u f l) 2).val = k + 4 * u.val := rfl
  have g3 : (B.idx (ix5 0 0 u f l) 3).val = f.val := by show 0 + 1 * f.val = _; omega
  have g4 : (B.idx (ix5 0 0 u f l) 4).val = l.val := by show 0 + 1 * l.val = _; omega
  have hpar : par < 2 := g1 ▸ (B.idx (ix5 0 0 u f l) 1).isLt
  refine (View.canon_apply_of_pieces (Val := Elt Ideal) (wtAt Q S6 c) _ ?_ (B.idx (ix5 0 0 u f l)) ?_).trans ?_
  · intro p hp x
    simp only [List.mem_cons, List.not_mem_nil, or_false] at hp
    rcases hp with rfl | rfl
    exacts [piece_eq slot 1 0 c h10 i10 e10 x, piece_eq slot 0 0 c h00 i00 e00 x]
  · rcases (show par = 0 ∨ par = 1 by omega) with hp | hp
    · exact ⟨_, .tail _ (.head _), mem_piece slot 0 0 h00 i00 _ g0 (g1.trans hp) (by omega) (by omega)⟩
    · exact ⟨_, .head _, mem_piece slot 1 0 h10 i10 _ g0 (g1.trans hp) (by omega) (by omega)⟩
  · unfold wtAt
    rw [g1, g2, g3, g4, show (k + 4 * u.val) % 4 = k by omega, show (k + 4 * u.val) / 4 = u.val by omega]

/-! ## The loads of the inputs and of the scales scratch -/

/-- A strided load of the packed words at offset `b`: word `w` is row `b + 2 w`. -/
theorem q_load {sig : RefSig} {κ : Kind} {sp : Space} (v : View sig κ sp S10112x128 .i32) (f) (b : ℕ) {o : Fin 2 → ℕ} (ho : o = ![b, 0])
    (inb : ∀ a, S64x128.size a = 0 ∨ o a + (![2, 1] : Fin 2 → ℕ) a * (S64x128.size a - 1) < S10112x128.size a) (w : Fin 64) (l : Fin 128) :
    v.readAt (Elt Ideal) ⟨o, S64x128.size, ![2, 1], inb⟩ f (ix2 w l) = at2 (v.read (Elt Ideal) f) 0 (b + 2 * w.val) l.val := by
  subst ho
  rw [View.readAt_apply]
  exact at2_eq _ _ _ rfl (show 0 + 1 * l.val = l.val by omega)

/-- The same one row further: word `w` is row `b + 2 w + 1`. -/
theorem q_load1 {sig : RefSig} {κ : Kind} {sp : Space} (v : View sig κ sp S10112x128 .i32) (f) (b : ℕ) {o : Fin 2 → ℕ} (ho : o = ![b + 1, 0])
    (inb : ∀ a, S64x128.size a = 0 ∨ o a + (![2, 1] : Fin 2 → ℕ) a * (S64x128.size a - 1) < S10112x128.size a) (w : Fin 64) (l : Fin 128) :
    v.readAt (Elt Ideal) ⟨o, S64x128.size, ![2, 1], inb⟩ f (ix2 w l) = at2 (v.read (Elt Ideal) f) 0 (b + 2 * w.val + 1) l.val :=
  (q_load v f _ ho inb w l).trans (by rw [Nat.add_right_comm])

/-- A load of `256` columns of the activations from column `b`. -/
theorem x_load256 {sig : RefSig} {κ : Kind} {sp : Space} (v : View sig κ sp S128x10112 .bf16) (f) (b : ℕ) {o : Fin 2 → ℕ} (ho : o = ![0, b])
    (inb : ∀ a, o a + S128x256.size a ≤ S128x10112.size a) (i : Fin 128) (t : Fin 256) :
    v.readAt (Elt Ideal) (Rect.unit (s := S128x10112) o S128x256.size inb).toLoadRect f (ix2 i t)
      = at2 (v.read (Elt Ideal) f) 0 i.val (b + t.val) := by
  subst ho
  rw [View.readAt_apply]
  exact at2_eq _ _ _ (show 0 + 1 * i.val = i.val by omega) (show b + 1 * t.val = b + t.val by omega)

/-- A load of `128` columns of the activations from column `b`. -/
theorem x_load128 {sig : RefSig} {κ : Kind} {sp : Space} (v : View sig κ sp S128x10112 .bf16) (f) (b : ℕ) {o : Fin 2 → ℕ} (ho : o = ![0, b])
    (inb : ∀ a, o a + S128x128.size a ≤ S128x10112.size a) (i : Fin 128) (t : Fin 128) :
    v.readAt (Elt Ideal) (Rect.unit (s := S128x10112) o S128x128.size inb).toLoadRect f (ix2 i t)
      = at2 (v.read (Elt Ideal) f) 0 i.val (b + t.val) := by
  subst ho
  rw [View.readAt_apply]
  exact at2_eq _ _ _ (show 0 + 1 * i.val = i.val by omega) (show b + 1 * t.val = b + t.val by omega)

/-- A load of eight rows of the scales scratch, of parity `par`, from row `b`. -/
theorem s_load {sig : RefSig} {κ : Kind} {sp : Space} (v : View sig κ sp S2x640x2x128 .bf16) (f) (par b : ℕ) {o : Fin 4 → ℕ}
    (ho : o = ![par, b, 0, 0]) (inb : ∀ a, o a + S1x8x2x128.size a ≤ S2x640x2x128.size a) (r : Fin 8) (h : Fin 2) (l : Fin 128) :
    v.readAt (Elt Ideal) (Rect.unit (s := S2x640x2x128) o S1x8x2x128.size inb).toLoadRect f (ix4 0 r h l)
      = at4 (v.read (Elt Ideal) f) 0 par (b + r.val) h.val l.val := by
  subst ho
  rw [View.readAt_apply]
  exact at4_eq _ _ _ rfl (show b + 1 * r.val = b + r.val by omega) (show 0 + 1 * h.val = h.val by omega)
    (show 0 + 1 * l.val = l.val by omega)

/-- The load of the whole block of scales. -/
theorem sc_load {sig : RefSig} {κ : Kind} {sp : Space} (v : View sig κ sp S79x1024 .bf16) (f) {o : Fin 2 → ℕ} (ho : o = ![0, 0])
    (inb : ∀ a, o a + S79x1024.size a ≤ S79x1024.size a) (g : Fin 79) (C : Fin 1024) :
    v.readAt (Elt Ideal) (Rect.unit (s := S79x1024) o S79x1024.size inb).toLoadRect f (ix2 g C)
      = at2 (v.read (Elt Ideal) f) 0 g.val C.val := by
  subst ho
  rw [View.readAt_apply]
  exact at2_eq _ _ _ (show 0 + 1 * g.val = g.val by omega) (show 0 + 1 * C.val = C.val by omega)

/-! ## The products' spellings -/

theorem pay16_eq (acc : FVec Ideal S128x256 .f32) (L : FVec Ideal S128x256 .bf16) (r0 r1 : Vec Ideal S1x1x128x2x128 .bf16) :
    k0_pay16 acc L (k0_pay14 r0) r1 (k0_pay15 r1) = k0_pay17 acc L r0 r1 := rfl
theorem pay18_eq (acc : FVec Ideal S128x256 .f32) (L : FVec Ideal S128x256 .bf16) (r0 r1 : Vec Ideal S1x1x128x2x128 .bf16) :
    k0_pay18 acc L r0 r1 = k0_pay17 acc L r0 r1 := rfl
theorem pay89_eq (acc : FVec Ideal S128x256 .f32) (L : FVec Ideal S128x256 .bf16) (r0 r1 : Vec Ideal S1x1x128x2x128 .bf16) :
    k0_pay89 acc L r0 r1 = k0_pay17 acc L r0 r1 := rfl

theorem pay13_eq (v : Vec Ideal S128x256 .bf16) : k0_pay13 v = v := by
  funext j
  idx_vars j
  pointwise [k0_pay13]

/-! ## The stored groups' spellings -/

theorem pay9_eq (A B : Vec Ideal S64x128 .i32) (S : Vec Ideal S1x8x2x128 .bf16) : k0_pay9 A B S = deq A B S := rfl
theorem pay8_eq (A B : Vec Ideal S64x128 .i32) (S : Vec Ideal S1x8x2x128 .bf16) :
    k0_pay8 A B S = deq (shrui A (broadcast S64x128 4#32)) (shrui B (broadcast S64x128 4#32)) S := rfl
theorem pay12_eq (A B : Vec Ideal S64x128 .i32) (S : Vec Ideal S1x8x2x128 .bf16) :
    k0_pay12 (k0_pay10 B) (k0_pay11 A) S = deq (shrui A (broadcast S64x128 4#32)) (shrui B (broadcast S64x128 4#32)) S := rfl

end Cert.Proof.Chunk

end
-- ==== Proof.IdealLoop.lean ====
/-
  The chunk loop of the idealized kernel: before trip `k` the four accumulators are the first ones with chunks `1, …, k` added
  (`iterAccs`; from the first chunk's sums, the sums over the first `256 (k + 1)` rows), the inputs and the scales scratch as they were, the weight scratch at some contents.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Loads
public import Idealize.ShloMosaic.Lib.Tactic
public import Idealize.ShloMosaic.Lib.Pipeline.Kit

@[expose] public section

set_option maxRecDepth 16384
set_option warn.classDefReducibility false

noncomputable section

namespace Cert.Proof.IdealBody

open Cert.Proof.Chunk Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The kernel's variants: none. -/
abbrev 𝒱₀ : Variants := Variants.none

/-! ## The weight scratch's offsets at trip `k`: slot `(k + 1) % 4` -/

theorem off4_eq : ∀ k : Fin k0_t1_loop.trips, k0_off4 k = ![(k.val + 1) % 4, 0, 0, 0, 0] := by decide +kernel
theorem off6_eq : ∀ k : Fin k0_t1_loop.trips, k0_off6 k = ![(k.val + 1) % 4, 1, 0, 0, 0] := by decide +kernel
theorem off7_eq : ∀ k : Fin k0_t1_loop.trips, k0_off7 k = ![(k.val + 1) % 4, 0, 256, 0, 0] := by decide +kernel
theorem off8_eq : ∀ k : Fin k0_t1_loop.trips, k0_off8 k = ![(k.val + 1) % 4, 1, 256, 0, 0] := by decide +kernel
theorem off10_eq : ∀ k : Fin k0_t1_loop.trips, k0_off10 k = ![(k.val + 1) % 4, 0, 0, 0, 0] := by decide +kernel
theorem off11_eq : ∀ k : Fin k0_t1_loop.trips, k0_off11 k = ![(k.val + 1) % 4, 0, 1, 0, 0] := by decide +kernel
theorem off12_eq : ∀ k : Fin k0_t1_loop.trips, k0_off12 k = ![(k.val + 1) % 4, 0, 2, 0, 0] := by decide +kernel
theorem off13_eq : ∀ k : Fin k0_t1_loop.trips, k0_off13 k = ![(k.val + 1) % 4, 0, 3, 0, 0] := by decide +kernel
theorem off14_eq : ∀ k : Fin k0_t1_loop.trips, k0_off14 k = ![(k.val + 1) % 4, 1, 0, 0, 0] := by decide +kernel
theorem off15_eq : ∀ k : Fin k0_t1_loop.trips, k0_off15 k = ![(k.val + 1) % 4, 1, 1, 0, 0] := by decide +kernel
theorem off16_eq : ∀ k : Fin k0_t1_loop.trips, k0_off16 k = ![(k.val + 1) % 4, 1, 2, 0, 0] := by decide +kernel
theorem off17_eq : ∀ k : Fin k0_t1_loop.trips, k0_off17 k = ![(k.val + 1) % 4, 1, 3, 0, 0] := by decide +kernel
theorem off1_eq0 : ∀ k : Fin k0_t1_loop.trips, k0_off1 k 0#32 = ![128 * (2 * (k.val + 1) + 0), 0] := by decide +kernel
theorem off1_eq1 : ∀ k : Fin k0_t1_loop.trips, k0_off1 k 1#32 = ![128 * (2 * (k.val + 1) + 1), 0] := by decide +kernel
theorem off2_eq0 : ∀ k : Fin k0_t1_loop.trips, k0_off2 k 0#32 = ![128 * (2 * (k.val + 1) + 0) + 1, 0] := by decide +kernel
theorem off2_eq1 : ∀ k : Fin k0_t1_loop.trips, k0_off2 k 1#32 = ![128 * (2 * (k.val + 1) + 1) + 1, 0] := by decide +kernel
theorem off3_eq0 : ∀ k : Fin k0_t1_loop.trips, k0_off3 k 0#32 = ![0, 8 * (2 * (k.val + 1) + 0), 0, 0] := by decide +kernel
theorem off3_eq1 : ∀ k : Fin k0_t1_loop.trips, k0_off3 k 1#32 = ![0, 8 * (2 * (k.val + 1) + 1), 0, 0] := by decide +kernel
theorem off5_eq0 : ∀ k : Fin k0_t1_loop.trips, k0_off5 k 0#32 = ![1, 8 * (2 * (k.val + 1) + 0), 0, 0] := by decide +kernel
theorem off5_eq1 : ∀ k : Fin k0_t1_loop.trips, k0_off5 k 1#32 = ![1, 8 * (2 * (k.val + 1) + 1), 0, 0] := by decide +kernel
theorem off9_eq : ∀ k : Fin k0_t1_loop.trips, k0_off9 k = ![0, 256 * (k.val + 1)] := by decide +kernel

instance (k : Fin k0_t1_loop.trips) : ClosedOff (k0_off4 k) := ⟨_, off4_eq k⟩
instance (k : Fin k0_t1_loop.trips) : ClosedOff (k0_off6 k) := ⟨_, off6_eq k⟩
instance (k : Fin k0_t1_loop.trips) : ClosedOff (k0_off7 k) := ⟨_, off7_eq k⟩
instance (k : Fin k0_t1_loop.trips) : ClosedOff (k0_off8 k) := ⟨_, off8_eq k⟩
instance (k : Fin k0_t1_loop.trips) : ClosedOff (k0_off10 k) := ⟨_, off10_eq k⟩
instance (k : Fin k0_t1_loop.trips) : ClosedOff (k0_off11 k) := ⟨_, off11_eq k⟩
instance (k : Fin k0_t1_loop.trips) : ClosedOff (k0_off12 k) := ⟨_, off12_eq k⟩
instance (k : Fin k0_t1_loop.trips) : ClosedOff (k0_off13 k) := ⟨_, off13_eq k⟩
instance (k : Fin k0_t1_loop.trips) : ClosedOff (k0_off14 k) := ⟨_, off14_eq k⟩
instance (k : Fin k0_t1_loop.trips) : ClosedOff (k0_off15 k) := ⟨_, off15_eq k⟩
instance (k : Fin k0_t1_loop.trips) : ClosedOff (k0_off16 k) := ⟨_, off16_eq k⟩
instance (k : Fin k0_t1_loop.trips) : ClosedOff (k0_off17 k) := ⟨_, off17_eq k⟩

/-- A memref's contents on core `c`, and the memref held whole at them. -/
abbrev Bf (c : Dev nD) {sp : Space} {S : Shape} {e : EltTy} (M : Memref sig .tc sp S e) : Type := Buf (Elt Ideal) (M.view.loc (c : Thread nD τ))
abbrev pt (c : Dev nD) {sp : Space} {S : Shape} {e : EltTy} (M : Memref sig .tc sp S e) (f : Bf c M) : sProp 𝕄 :=
  M.view.loc (c : Thread nD τ) ↦{fullShare} f

/-! ## The chunk loop -/

/-- The activations, the packed words and the scales scratch, read at plain numbers. -/
abbrev Xf (c : Dev nD) {sp : Space} (M : Memref sig .tc sp S128x10112 .bf16) (f : Bf c M) : ℕ → ℕ → EReal := at2 (M.view.read (Elt Ideal) f) 0
abbrev Qf (c : Dev nD) {sp : Space} (M : Memref sig .tc sp S10112x128 .i32) (f : Bf c M) : ℕ → ℕ → BitVec 32 := at2 (M.view.read (Elt Ideal) f) 0
abbrev Sf (c : Dev nD) {sp : Space} (M : Memref sig .tc sp S2x640x2x128 .bf16) (f : Bf c M) : ℕ → ℕ → ℕ → ℕ → EReal := at4 (M.view.read (Elt Ideal) f) 0

/-- The four accumulators after `n` rows. -/
def accs (X : ℕ → ℕ → EReal) (Q : ℕ → ℕ → BitVec 32) (S6 : ℕ → ℕ → ℕ → ℕ → EReal) (n : ℕ) :
    FVec Ideal S128x256 .f32 × FVec Ideal S128x256 .f32 × FVec Ideal S128x256 .f32 × FVec Ideal S128x256 .f32 :=
  (accV X Q S6 0 0 n, accV X Q S6 0 1 n, accV X Q S6 1 0 n, accV X Q S6 1 1 n)

/-- The four accumulators with chunk `c` added. -/
def stepAccs (X : ℕ → ℕ → EReal) (Q : ℕ → ℕ → BitVec 32) (S6 : ℕ → ℕ → ℕ → ℕ → EReal) (c : ℕ)
    (a : FVec Ideal S128x256 .f32 × FVec Ideal S128x256 .f32 × FVec Ideal S128x256 .f32 × FVec Ideal S128x256 .f32) :
    FVec Ideal S128x256 .f32 × FVec Ideal S128x256 .f32 × FVec Ideal S128x256 .f32 × FVec Ideal S128x256 .f32 :=
  (stepV X Q S6 0 0 c a.1, stepV X Q S6 0 1 c a.2.1, stepV X Q S6 1 0 c a.2.2.1, stepV X Q S6 1 1 c a.2.2.2)

/-- The accumulators before trip `k`, from those before the first: chunks `1, …, k` added in turn. -/
def iterAccs (X : ℕ → ℕ → EReal) (Q : ℕ → ℕ → BitVec 32) (S6 : ℕ → ℕ → ℕ → ℕ → EReal)
    (a : FVec Ideal S128x256 .f32 × FVec Ideal S128x256 .f32 × FVec Ideal S128x256 .f32 × FVec Ideal S128x256 .f32) :
    ℕ → FVec Ideal S128x256 .f32 × FVec Ideal S128x256 .f32 × FVec Ideal S128x256 .f32 × FVec Ideal S128x256 .f32
  | 0 => a
  | k + 1 => stepAccs X Q S6 (k + 1) (iterAccs X Q S6 a k)

/-- From the first chunk's sums, the accumulators before trip `k` are the sums over the first `256 (k + 1)` rows. -/
theorem iterAccs_accs (X : ℕ → ℕ → EReal) (Q : ℕ → ℕ → BitVec 32) (S6 : ℕ → ℕ → ℕ → ℕ → EReal) (k : ℕ) :
    iterAccs X Q S6 (accs X Q S6 (256 * (0 + 1))) k = accs X Q S6 (256 * (k + 1)) := by
  induction k with
  | zero => rfl
  | succ k ih =>
    show stepAccs X Q S6 (k + 1) (iterAccs X Q S6 _ k) = _
    rw [ih]
    unfold stepAccs accs
    simp only [stepV_accV]

theorem accs_of {X : ℕ → ℕ → EReal} {Q : ℕ → ℕ → BitVec 32} {S6 : ℕ → ℕ → ℕ → ℕ → EReal} {n : ℕ} {a b c d : FVec Ideal S128x256 .f32}
    (ha : a = accV X Q S6 0 0 n) (hb : b = accV X Q S6 0 1 n) (hc : c = accV X Q S6 1 0 n) (hd : d = accV X Q S6 1 1 n) :
    (a, b, c, d) = accs X Q S6 n := by
  subst ha hb hc hd
  rfl

theorem stepAccs_of {X : ℕ → ℕ → EReal} {Q : ℕ → ℕ → BitVec 32} {S6 : ℕ → ℕ → ℕ → ℕ → EReal} {n : ℕ} {a b c d a' b' c' d' : FVec Ideal S128x256 .f32}
    (ha : a' = stepV X Q S6 0 0 n a) (hb : b' = stepV X Q S6 0 1 n b) (hc : c' = stepV X Q S6 1 0 n c) (hd : d' = stepV X Q S6 1 1 n d) :
    (a', b', c', d') = stepAccs X Q S6 n (a, b, c, d) := by
  subst ha hb hc hd
  rfl

/-- Before every trip: the inputs and the scales scratch as they were, the weight scratch at some contents. -/
@[sl_loop] def loopInv (c : Dev nD) (i : grid0.Coords) (arg1 : Memref sig .tc .vmem S128x10112 .bf16) (harg1 : arg1.IsWhole) (arg2 : Memref sig .tc .vmem S10112x128 .i32) (harg2 : arg2.IsWhole) (arg3 : Memref sig .tc .vmem S79x1024 .bf16) (harg3 : arg3.IsWhole) (arg4 : Memref sig .tc .vmem S128x1024 .bf16) (harg4 : arg4.IsWhole) (arg5 : Memref sig .tc .vmem S1024x128 .f32) (harg5 : arg5.IsWhole) (arg6 : Memref sig .tc .vmem S2x640x2x128 .bf16) (harg6 : arg6.IsWhole) (arg7 : Memref sig .tc .vmem S4x2x512x2x128 .bf16) (harg7 : arg7.IsWhole) (v223 : FVec Ideal S128x256 .bf16) (v231 : FVec Ideal S128x256 .f32) (v234 : FVec Ideal S256x128 .bf16) (v235_raw : Vec Ideal S1x1x128x2x128 .bf16) (init : FVec Ideal S128x256 .f32 × FVec Ideal S128x256 .f32 × FVec Ideal S128x256 .f32 × FVec Ideal S128x256 .f32)
    (f1 : Bf c arg1) (f2 : Bf c arg2) (f6 : Bf c arg6) :
    LoopInvTy_k0_t1 (F := Ideal) Unit ℕ (UR sig nD τ) ℕ 𝒱₀ c none Set.univ i arg1 harg1 arg2 harg2 arg3 harg3 arg4 harg4 arg5 harg5 arg6 harg6 arg7 harg7 v223 v231 v234 v235_raw init where
  inv := fun k acc => iprop(⌜acc = iterAccs (Xf c arg1 f1) (Qf c arg2 f2) (Sf c arg6 f6) init k⌝ ∗ pt c arg1 f1 ∗ pt c arg2 f2 ∗ pt c arg6 f6 ∗ ∃ f7, pt c arg7 f7)
  step := fun k acc => by
    obtain ⟨a9, a10, a11, a12⟩ := acc
    unfold k0_t1_body
    iintro ⟨%hA, H1, H2, H6, ⟨%f7, H7⟩⟩
    sl_exec
    sl_step
    have e00 := deq_eq_wtOf (2 * (k.val + 1) + 0) _ _ _ (fun w l => q_load arg2.view f2 _ (off1_eq0 k) (k0_off1_inb k 0) w l)
      (fun w l => q_load1 arg2.view f2 _ (off2_eq0 k) (k0_off2_inb k 0) w l)
      (fun r h l => s_load arg6.view f6 _ _ (off3_eq0 k) (k0_off3_inb k 0) r h l)
    have e01 := (pay9_eq _ _ _).trans <| deq_eq_wtOf (2 * (k.val + 1) + 1) _ _ _ (fun w l => q_load arg2.view f2 _ (off1_eq1 k) (k0_off1_inb k 1) w l)
      (fun w l => q_load1 arg2.view f2 _ (off2_eq1 k) (k0_off2_inb k 1) w l)
      (fun r h l => s_load arg6.view f6 _ _ (off3_eq1 k) (k0_off3_inb k 1) r h l)
    have e10 := (pay8_eq _ _ _).trans <| deq_shr_eq_wtOf (2 * (k.val + 1) + 0) _ _ _ (fun w l => q_load arg2.view f2 _ (off1_eq0 k) (k0_off1_inb k 0) w l)
      (fun w l => q_load1 arg2.view f2 _ (off2_eq0 k) (k0_off2_inb k 0) w l)
      (fun r h l => s_load arg6.view f6 _ _ (off5_eq0 k) (k0_off5_inb k 0) r h l)
    have e11 := (pay12_eq _ _ _).trans <| deq_shr_eq_wtOf (2 * (k.val + 1) + 1) _ _ _ (fun w l => q_load arg2.view f2 _ (off1_eq1 k) (k0_off1_inb k 1) w l)
      (fun w l => q_load1 arg2.view f2 _ (off2_eq1 k) (k0_off2_inb k 1) w l)
      (fun r h l => s_load arg6.view f6 _ _ (off5_eq1 k) (k0_off5_inb k 1) r h l)
    have hW := fun (par kk : ℕ) (hk : kk < 4) (o : Fin 5 → ℕ) (ho : o = ![(k.val + 1) % 4, par, kk, 0, 0]) inb u h l =>
      weights_load arg7.view ((k.val + 1) % 4) (k.val + 1) (off4_eq k) (off6_eq k) (off7_eq k) (off8_eq k) (k0_off4_inb k) (k0_off6_inb k)
        (k0_off7_inb k) (k0_off8_inb k) e00 e10 e01 e11 par kk hk ho inb u h l
    have hX := fun i t => (congrFun (pay13_eq _) _).trans <| x_load256 arg1.view f1 _ (off9_eq k) (k0_off9_inb k) i t
    have s0 := step256 0 0 (k.val + 1) a9 _ _ _ hX (hW 0 0 (by omega) _ (off10_eq k) (k0_off10_inb k)) (hW 0 1 (by omega) _ (off11_eq k) (k0_off11_inb k))
    have s1 := step256 0 1 (k.val + 1) a10 _ _ _ hX (hW 0 2 (by omega) _ (off12_eq k) (k0_off12_inb k)) (hW 0 3 (by omega) _ (off13_eq k) (k0_off13_inb k))
    have s2 := step256 1 0 (k.val + 1) a11 _ _ _ hX (hW 1 0 (by omega) _ (off14_eq k) (k0_off14_inb k)) (hW 1 1 (by omega) _ (off15_eq k) (k0_off15_inb k))
    have s3 := step256 1 1 (k.val + 1) a12 _ _ _ hX (hW 1 2 (by omega) _ (off16_eq k) (k0_off16_inb k)) (hW 1 3 (by omega) _ (off17_eq k) (k0_off17_inb k))
    isplitr
    · ipureintro
      refine Eq.trans ?_ (congrArg (stepAccs _ _ _ _) hA)
      exact stepAccs_of ((pay16_eq _ _ _ _).trans s0) s1 ((pay18_eq _ _ _ _).trans s2) ((pay89_eq _ _ _ _).trans s3)
    · sl_close

end Cert.Proof.IdealBody

end
-- ==== Proof.Scales.lean ====
/-
  The scales scratch and the output buffer, at exact arithmetic. `sclAt` is what the scales scratch holds once the body has
  transposed the block of scales and scattered it by field: row `8 g + k + 4 r` of parity `par` is group `g`'s scale of field
  `2 k + par` of every word. `outAt` is what the output buffer holds: column `8 l + o` is the accumulator of the field whose
  place within its word's eight columns is `o`.
-/
module

public import proofs.«01_k».proof.Proof.Loads

@[expose] public section

noncomputable section

namespace Cert.Proof.Chunk

open Idealize Idealize.ShloMosaic Idealize.SL.Sem Cert.KernelIdeal Cert.KernelIdeal.Gen

/-! ## Stores taken as pieces of one function -/

/-- A store that is its part of `G`, and that covers the indices of a class. -/
def Piece1 {S : Shape} {e : EltTy} (G : S.Idx → Elt Ideal e) (D : S.Idx → Prop) (p : View.Piece (Elt Ideal) S e) : Prop :=
  (∀ x, p.2 x = G (p.1.emb x)) ∧ ∀ y, D y → y ∈ p.1.set

/-- The last stores, being parts of `G`, decide the contents where they cover. -/
theorem canon_pieces {S : Shape} {e : EltTy} (G : S.Idx → Elt Ideal e) {ι : Type} (D : ι → S.Idx → Prop) {I : List ι}
    {L : List (View.Piece (Elt Ideal) S e)} (h : List.Forall₂ (fun p i => Piece1 G (D i) p) L I) (L' : List (View.Piece (Elt Ideal) S e))
    (y : S.Idx) (hy : ∃ i ∈ I, D i y) : View.canon (L ++ L') y = G y := by
  induction h with
  | nil => obtain ⟨i, hi, _⟩ := hy; simp at hi
  | @cons p i L I hp h ih =>
    rw [List.cons_append]
    by_cases hm : y ∈ p.1.set
    · obtain ⟨x, rfl⟩ := p.1.exists_idx_of_mem hm
      rw [show p.1.idx x = p.1.emb x from rfl, View.canon_cons_emb]
      exact hp.1 x
    · rw [View.canon_cons_of_not_mem _ _ hm]
      refine ih ?_
      obtain ⟨k, hk, hD⟩ := hy
      rcases List.mem_cons.mp hk with rfl | hk'
      · exact absurd (hp.2 y hD) hm
      · exact ⟨k, hk', hD⟩

theorem exists_mem_pieces {S : Shape} {e : EltTy} (G : S.Idx → Elt Ideal e) {ι : Type} (D : ι → S.Idx → Prop) {I : List ι}
    {L : List (View.Piece (Elt Ideal) S e)} (h : List.Forall₂ (fun p i => Piece1 G (D i) p) L I) (L' : List (View.Piece (Elt Ideal) S e))
    (y : S.Idx) (hy : ∃ i ∈ I, D i y) : ∃ p ∈ L ++ L', y ∈ p.1.set := by
  induction h with
  | nil => obtain ⟨i, hi, _⟩ := hy; simp at hi
  | @cons p i L I hp h ih =>
    obtain ⟨k, hk, hD⟩ := hy
    rcases List.mem_cons.mp hk with rfl | hk'
    · exact ⟨p, List.mem_cons_self .., hp.2 y hD⟩
    · obtain ⟨q, hq, hyq⟩ := ih ⟨k, hk', hD⟩
      exact ⟨q, List.mem_cons_of_mem _ hq, hyq⟩

/-- The contents after stores, where the last ones, parts of `G`, cover. -/
theorem read_pieces {sig : RefSig} {κ : Kind} {sp : Space} {S : Shape} {e : EltTy} (v : View sig κ sp S e) (f) (G : S.Idx → Elt Ideal e)
    {ι : Type} (D : ι → S.Idx → Prop) {I : List ι}
    {L : List (View.Piece (Elt Ideal) S e)} (h : List.Forall₂ (fun p i => Piece1 G (D i) p) L I) (L' : List (View.Piece (Elt Ideal) S e))
    (y : S.Idx) (hy : ∃ i ∈ I, D i y) : v.read (Elt Ideal) (v.writes (Elt Ideal) f (L ++ L')) y = G y :=
  (View.read_writes_apply_eq_canon v f y _ (exists_mem_pieces G D h L' y hy)).trans (canon_pieces G D h L' y hy)

/-! ## The transposed scales -/

variable {SC : ℕ → ℕ → EReal}

/-- What the first scratch holds, in its first 80 columns: the block of scales transposed. -/
def trAt (SC : ℕ → ℕ → EReal) (y : S1024x128.Idx) : EReal := SC (y 1).val (y 0).val

/-- Rows `128 t, …` of the first scratch, columns below 80. -/
def trD (t : ℕ) (y : S1024x128.Idx) : Prop := 128 * t ≤ (y 0).val ∧ (y 0).val < 128 * t + 128 ∧ (y 1).val < 80

theorem tr_piece (t : ℕ) {o : Fin 2 → ℕ} (ho : o = ![128 * t, 0]) (inb : ∀ a, o a + S128x80.size a ≤ S1024x128.size a)
    {P : S128x80.Idx → EReal} (hP : ∀ (r : Fin 128) (g : Fin 80), P (ix2 r g) = SC g.val (128 * t + r.val)) :
    Piece1 (e := .f32) (trAt SC) (trD t) ⟨Rect.unit (s := S1024x128) o S128x80.size inb, P⟩ := by
  subst ho
  refine ⟨fun x => ?_, fun y hy => ?_⟩
  · have hx : x = ix2 (n0 := 128) (n1 := 80) (x 0) (x 1) := by
      funext a
      match a with
      | ⟨0, _⟩ => rfl
      | ⟨1, _⟩ => rfl
    refine (congrArg P hx).trans ((hP _ _).trans ?_)
    show SC _ _ = SC (0 + 1 * (x 1).val) (128 * t + 1 * (x 0).val)
    simp only [Nat.zero_add, Nat.one_mul]
  · obtain ⟨h0, h1, h2⟩ := hy
    rw [Rect.mem_set_unit]
    intro a
    match a with
    | ⟨0, _⟩ => exact ⟨h0, h1⟩
    | ⟨1, _⟩ => exact ⟨Nat.zero_le _, by show (y 1).val < 0 + 80; omega⟩

/-- The block of scales with a row of zeros below it. -/
theorem pay19_apply (A : Vec Ideal S79x1024 .bf16) (hA : ∀ (g : Fin 79) (c : Fin 1024), A (ix2 g c) = SC g.val c.val)
    (hz : ∀ c, SC 79 c = 0) (g : Fin 80) (c : Fin 1024) : k0_pay19 A (ix2 g c) = SC g.val c.val := by
  pointwise [k0_pay19]
  split
  · exact hA _ _
  · rename_i h
    have hg : g.val = 79 := by have := g.isLt; simp at h; omega
    rw [hg, hz]

/-! The eight stored pieces of the transposed block. -/

section

variable (A : Vec Ideal S79x1024 .bf16) (hA : ∀ (g : Fin 79) (c : Fin 1024), A (ix2 g c) = SC g.val c.val) (hz : ∀ c, SC 79 c = 0)
include hA hz

theorem pay20_apply (r : Fin 128) (g : Fin 80) : k0_pay20 A (ix2 r g) = SC g.val (128 * 0 + r.val) := by
  rw [← pay19_apply A hA hz g ⟨128 * 0 + r.val, by omega⟩]
  pointwise [k0_pay20]

theorem pay21_apply (r : Fin 128) (g : Fin 80) : k0_pay21 A (ix2 r g) = SC g.val (128 * 1 + r.val) := by
  rw [← pay19_apply A hA hz g ⟨128 * 1 + r.val, by omega⟩]
  pointwise [k0_pay21]

theorem pay22_apply (r : Fin 128) (g : Fin 80) : k0_pay22 A (ix2 r g) = SC g.val (128 * 2 + r.val) := by
  rw [← pay19_apply A hA hz g ⟨128 * 2 + r.val, by omega⟩]
  pointwise [k0_pay22]

theorem pay23_apply (r : Fin 128) (g : Fin 80) : k0_pay23 A (ix2 r g) = SC g.val (128 * 3 + r.val) := by
  rw [← pay19_apply A hA hz g ⟨128 * 3 + r.val, by omega⟩]
  pointwise [k0_pay23]

theorem pay24_apply (r : Fin 128) (g : Fin 80) : k0_pay24 A (ix2 r g) = SC g.val (128 * 4 + r.val) := by
  rw [← pay19_apply A hA hz g ⟨128 * 4 + r.val, by omega⟩]
  pointwise [k0_pay24]

theorem pay25_apply (r : Fin 128) (g : Fin 80) : k0_pay25 A (ix2 r g) = SC g.val (128 * 5 + r.val) := by
  rw [← pay19_apply A hA hz g ⟨128 * 5 + r.val, by omega⟩]
  pointwise [k0_pay25]

theorem pay27_apply (r : Fin 128) (g : Fin 80) : k0_pay27 (k0_pay26 A) (ix2 r g) = SC g.val (128 * 6 + r.val) := by
  rw [← pay19_apply A hA hz g ⟨128 * 6 + r.val, by omega⟩]
  pointwise [k0_pay27, k0_pay26]

theorem pay28_apply (r : Fin 128) (g : Fin 80) : k0_pay28 (k0_pay19 A) (ix2 r g) = SC g.val (128 * 7 + r.val) := by
  rw [← pay19_apply A hA hz g ⟨128 * 7 + r.val, by omega⟩]
  pointwise [k0_pay28]

end

/-! ## The scales by field -/

/-- The place of field `j` within its word's eight columns. -/
def ord (j : ℕ) : ℕ := 2 * j - 7 * (j / 4)

/-- What the scales scratch holds. -/
def sclAt (SC : ℕ → ℕ → EReal) (y : S2x640x2x128.Idx) : EReal :=
  SC ((y 1).val / 8) (8 * (y 3).val + ord (2 * ((y 1).val % 4) + (y 0).val))

/-- Parity `i.1`'s rows `8 g + i.2`. -/
def sclD (i : ℕ × ℕ) (y : S2x640x2x128.Idx) : Prop := (y 0).val = i.1 ∧ (y 1).val % 8 = i.2

/-- The strided read of the first scratch at offset `o`, its first 80 columns. -/
theorem pay32_apply (T : Vec Ideal S128x128 .f32) (g : Fin 80) (f : Fin 2) (l : Fin 128) :
    k0_pay32 T (ix4 0 g f l) = T (ix2 l ⟨g.val, by omega⟩) := by
  rcases Fin.exists_fin_two.mp ⟨f, rfl⟩ with rfl | rfl
  · pointwise [k0_pay32, k0_pay31, k0_pay30, k0_pay29]
  · pointwise [k0_pay32, k0_pay31, k0_pay30, k0_pay29]

theorem scl_piece (par kk : ℕ) (hk : kk < 8) {o : Fin 4 → ℕ} (ho : o = ![par, kk, 0, 0])
    (inb : ∀ a, S1x80x2x128.size a = 0 ∨ o a + (![1, 8, 1, 1] : Fin 4 → ℕ) a * (S1x80x2x128.size a - 1) < S2x640x2x128.size a) (pos)
    {P : S1x80x2x128.Idx → EReal} (T : Vec Ideal S128x128 .f32) (hP : P = k0_pay32 T)
    (hT : ∀ (l : Fin 128) (g : Fin 80), T (ix2 l ⟨g.val, by omega⟩) = SC g.val (8 * l.val + ord (2 * (kk % 4) + par))) :
    Piece1 (e := .bf16) (sclAt SC) (sclD (par, kk)) ⟨⟨⟨o, S1x80x2x128.size, ![1, 8, 1, 1], inb⟩, pos⟩, P⟩ := by
  subst ho hP
  refine ⟨fun x => ?_, fun y hy => ?_⟩
  · have h0 : (x 0).val < 1 := (x 0).isLt
    have hx : x = ix4 (n0 := 1) (n1 := 80) (n2 := 2) (n3 := 128) 0 (x 1) (x 2) (x 3) := by
      funext a
      match a with
      | ⟨0, _⟩ => exact Fin.ext (by show (x 0).val = 0; omega)
      | ⟨1, _⟩ => rfl
      | ⟨2, _⟩ => rfl
      | ⟨3, _⟩ => rfl
    refine (congrArg (k0_pay32 T) hx).trans ((pay32_apply T _ _ _).trans ((hT _ _).trans ?_))
    show _ = SC ((kk + 8 * (x 1).val) / 8) (8 * (0 + 1 * (x 3).val) + ord (2 * ((kk + 8 * (x 1).val) % 4) + (par + 1 * (x 0).val)))
    rw [show (kk + 8 * (x 1).val) / 8 = (x 1).val by omega, show (kk + 8 * (x 1).val) % 4 = kk % 4 by omega,
      show par + 1 * (x 0).val = par by omega, Nat.zero_add, Nat.one_mul]
  · obtain ⟨h0, h1⟩ := hy
    rw [LoadRect.mem_set]
    intro a
    match a with
    | ⟨0, _⟩ => exact ⟨0, Nat.zero_lt_one, h0⟩
    | ⟨1, _⟩ =>
      have : (y 1).val < 640 := (y 1).isLt
      exact ⟨(y 1).val / 8, by show (y 1).val / 8 < 80; omega, by show (y 1).val = kk + 8 * ((y 1).val / 8); simp only at h1; omega⟩
    | ⟨2, _⟩ => exact ⟨(y 2).val, (y 2).isLt, by show (y 2).val = 0 + 1 * (y 2).val; omega⟩
    | ⟨3, _⟩ => exact ⟨(y 3).val, (y 3).isLt, by show (y 3).val = 0 + 1 * (y 3).val; omega⟩

/-! ## The output -/

/-- What the first scratch holds at the end, the accumulators `a`: row `8 l + o` is lane `l` of the accumulator of place `o`. -/
def tmpAt (a : ℕ → FVec Ideal S128x256 .f32) (y : S1024x128.Idx) : EReal :=
  a ((y 0).val % 4) (ix2 (n0 := 128) (n1 := 256) (y 1) ⟨128 * ((y 0).val % 8 / 4) + (y 0).val / 8, by have : (y 0).val < 1024 := (y 0).isLt; omega⟩)

def tmpD (o : ℕ) (y : S1024x128.Idx) : Prop := (y 0).val % 8 = o

theorem tmp_piece (a : ℕ → FVec Ideal S128x256 .f32) (q : ℕ) (hq : q < 8) {o : Fin 2 → ℕ} (ho : o = ![q, 0])
    (inb : ∀ a, S128x128.size a = 0 ∨ o a + (![8, 1] : Fin 2 → ℕ) a * (S128x128.size a - 1) < S1024x128.size a) (pos)
    {P : S128x128.Idx → EReal}
    (hP : ∀ (l i : Fin 128), P (ix2 l i) = a (q % 4) (ix2 i ⟨128 * (q / 4) + l.val, by omega⟩)) :
    Piece1 (e := .f32) (tmpAt a) (tmpD q) ⟨⟨⟨o, S128x128.size, ![8, 1], inb⟩, pos⟩, P⟩ := by
  subst ho
  refine ⟨fun x => ?_, fun y hy => ?_⟩
  · have hx : x = ix2 (n0 := 128) (n1 := 128) (x 0) (x 1) := by
      funext a
      match a with
      | ⟨0, _⟩ => rfl
      | ⟨1, _⟩ => rfl
    refine (congrArg P hx).trans ((hP _ _).trans ?_)
    set z := ((⟨⟨![q, 0], S128x128.size, ![8, 1], inb⟩, pos⟩ : Rect S1024x128).emb x) with hz
    have z0 : (z 0).val = q + 8 * (x 0).val := rfl
    have z1 : (z 1).val = (x 1).val := by show 0 + 1 * (x 1).val = _; omega
    show _ = tmpAt a z
    unfold tmpAt
    have e0 : (z 0).val % 4 = q % 4 := by omega
    rw [e0]
    congr 1
    congr 1
    · exact Fin.ext z1.symm
    · exact Fin.ext (by show 128 * (q / 4) + (x 0).val = 128 * ((z 0).val % 8 / 4) + (z 0).val / 8; omega)
  · rw [LoadRect.mem_set]
    intro a
    have hy' : (y 0).val % 8 = q := hy
    match a with
    | ⟨0, _⟩ =>
      have : (y 0).val < 1024 := (y 0).isLt
      exact ⟨(y 0).val / 8, by show (y 0).val / 8 < 128; omega, by show (y 0).val = q + 8 * ((y 0).val / 8); omega⟩
    | ⟨1, _⟩ => exact ⟨(y 1).val, (y 1).isLt, by show (y 1).val = 0 + 1 * (y 1).val; omega⟩

theorem pay99_apply (v : FVec Ideal S128x256 .f32) (l i : Fin 128) : k0_pay99 v (ix2 l i) = v (ix2 i ⟨128 * 0 + l.val, by omega⟩) := by
  pointwise [k0_pay99]

theorem pay100_apply (v : FVec Ideal S128x256 .f32) (l i : Fin 128) : k0_pay100 v (ix2 l i) = v (ix2 i ⟨128 * 1 + l.val, by omega⟩) := by
  pointwise [k0_pay100]

/-- What the output buffer holds at the end. -/
def outAt (a : ℕ → FVec Ideal S128x256 .f32) (y : S128x1024.Idx) : EReal :=
  a ((y 1).val % 4) (ix2 (n0 := 128) (n1 := 256) (y 0) ⟨128 * ((y 1).val % 8 / 4) + (y 1).val / 8, by have : (y 1).val < 1024 := (y 1).isLt; omega⟩)

def outD (t : ℕ) (y : S128x1024.Idx) : Prop := 128 * t ≤ (y 1).val ∧ (y 1).val < 128 * t + 128

theorem pay108_apply (T : Vec Ideal S128x128 .f32) (i r : Fin 128) : k0_pay108 T (ix2 i r) = T (ix2 r i) := by
  pointwise [k0_pay108]

theorem out_piece (a : ℕ → FVec Ideal S128x256 .f32) (t : ℕ) (ht : t < 8) {o : Fin 2 → ℕ} (ho : o = ![0, 128 * t])
    (inb : ∀ a, o a + S128x128.size a ≤ S128x1024.size a) {P : S128x128.Idx → EReal} (T : Vec Ideal S128x128 .f32) (hP : P = k0_pay108 T)
    (hT : ∀ (r i : Fin 128), T (ix2 r i) = tmpAt a (ix2 (n0 := 1024) (n1 := 128) ⟨128 * t + r.val, by omega⟩ i)) :
    Piece1 (e := .bf16) (outAt a) (outD t) ⟨Rect.unit (s := S128x1024) o S128x128.size inb, P⟩ := by
  subst ho hP
  refine ⟨fun x => ?_, fun y hy => ?_⟩
  · have hx : x = ix2 (n0 := 128) (n1 := 128) (x 0) (x 1) := by
      funext a
      match a with
      | ⟨0, _⟩ => rfl
      | ⟨1, _⟩ => rfl
    refine (congrArg (k0_pay108 T) hx).trans ((pay108_apply T _ _).trans ((hT _ _).trans ?_))
    set z := ((Rect.unit (s := S128x1024) ![0, 128 * t] S128x128.size inb).emb x) with hz
    have z0 : (z 0).val = (x 0).val := by show 0 + 1 * (x 0).val = _; omega
    have z1 : (z 1).val = 128 * t + (x 1).val := by show 128 * t + 1 * (x 1).val = _; omega
    show _ = outAt a z
    unfold outAt tmpAt
    have e1 : (z 1).val = (128 * t + (x 1).val) := z1
    show a ((128 * t + (x 1).val) % 4) (ix2 (x 0) ⟨128 * ((128 * t + (x 1).val) % 8 / 4) + (128 * t + (x 1).val) / 8, _⟩) = _
    rw [show (z 1).val % 4 = (128 * t + (x 1).val) % 4 by rw [e1]]
    congr 1
    congr 1
    · exact Fin.ext z0.symm
    · exact Fin.ext (by show 128 * ((128 * t + (x 1).val) % 8 / 4) + (128 * t + (x 1).val) / 8 = 128 * ((z 1).val % 8 / 4) + (z 1).val / 8; rw [e1])
  · obtain ⟨h0, h1⟩ := hy
    rw [Rect.mem_set_unit]
    intro a
    match a with
    | ⟨0, _⟩ => exact ⟨Nat.zero_le _, by show (y 0).val < 0 + 128; have : (y 0).val < 128 := (y 0).isLt; omega⟩
    | ⟨1, _⟩ => exact ⟨h0, h1⟩

/-! ## What a column of the output is -/

/-- The field whose place within its word's eight columns is `o`. -/
def inv (o : ℕ) : ℕ := o / 2 + 4 * (o % 2)

/-- One entry of the kernel's result: over the rows, the activation times the column's field times the column's scale. -/
def outVal (X : ℕ → ℕ → EReal) (Q : ℕ → ℕ → BitVec 32) (SC : ℕ → ℕ → EReal) (i C : ℕ) : EReal :=
  ∑ kk ∈ Finset.range 10112, X i kk * (nibble (Q kk (C / 8)) (inv (C % 8)) * SC (kk / 128) C)

/-- The four final accumulators, by place modulo four. -/
def accAt (X : ℕ → ℕ → EReal) (Q : ℕ → ℕ → BitVec 32) (S6 : ℕ → ℕ → ℕ → ℕ → EReal) (o : ℕ) : FVec Ideal S128x256 .f32 :=
  accV X Q S6 (o / 2) (o % 2) 10112

theorem outAt_eq (X : ℕ → ℕ → EReal) (Q : ℕ → ℕ → BitVec 32) (S6 : ℕ → ℕ → ℕ → ℕ → EReal)
    (hS : ∀ par r f l, par < 2 → r < 640 → f < 2 → l < 128 → S6 par r f l = SC (r / 8) (8 * l + ord (2 * (r % 4) + par))) (y : S128x1024.Idx) :
    outAt (accAt X Q S6) y = outVal X Q SC (y 0).val (y 1).val := by
  unfold outAt outVal accAt accV wt
  have hy : (y 1).val < 1024 := (y 1).isLt
  refine Finset.sum_congr rfl fun kk hkk => ?_
  have hk : kk < 10112 := Finset.mem_range.mp hkk
  show X (y 0).val kk * (nibble (Q kk ((128 * ((y 1).val % 8 / 4) + (y 1).val / 8) % 128)) (2 * (2 * ((y 1).val % 4 % 2) + (128 * ((y 1).val % 8 / 4) + (y 1).val / 8) / 128) + (y 1).val % 4 / 2)
    * S6 ((y 1).val % 4 / 2) (8 * (kk / 128) + 4 * (kk / 2 % 2) + (2 * ((y 1).val % 4 % 2) + (128 * ((y 1).val % 8 / 4) + (y 1).val / 8) / 128)) (kk % 2) ((128 * ((y 1).val % 8 / 4) + (y 1).val / 8) % 128)) = _
  generalize (y 1).val = C at hy ⊢
  rw [hS _ _ _ _ (by omega) (by omega) (by omega) (by omega)]
  have hm : (128 * (C % 8 / 4) + C / 8) % 128 = C / 8 := by omega
  have hd : (128 * (C % 8 / 4) + C / 8) / 128 = C % 8 / 4 := by omega
  have e1 : C % 4 % 2 = C % 2 := by omega
  have e2 : (8 * (kk / 128) + 4 * (kk / 2 % 2) + (2 * (C % 2) + C % 8 / 4)) % 4 = 2 * (C % 2) + C % 8 / 4 := by omega
  have e3 : (8 * (kk / 128) + 4 * (kk / 2 % 2) + (2 * (C % 2) + C % 8 / 4)) / 8 = kk / 128 := by omega
  rw [hm, hd, e1, e2, e3]
  have hj : 2 * (2 * (C % 2) + C % 8 / 4) + C % 4 / 2 = inv (C % 8) := by
    rw [show C % 2 = C % 8 % 2 by omega, show C % 4 = C % 8 % 4 by omega]
    exact (by decide : ∀ n < 8, 2 * (2 * (n % 2) + n / 4) + n % 4 / 2 = inv n) _ (Nat.mod_lt _ (by omega))
  have ho : 8 * (C / 8) + ord (inv (C % 8)) = C := by
    have h8 : C % 8 < 8 := Nat.mod_lt _ (by omega)
    have : ord (inv (C % 8)) = C % 8 := (by decide : ∀ n < 8, ord (inv n) = n) _ h8
    omega
  rw [hj, ho]

/-! ## Loads over these stores -/

/-- The strided load of the first scratch at offset `q`, over the transposed block: lane `l`, group `g` is column `8 l + q`'s scale. -/
theorem tr_load {sig : RefSig} {κ : Kind} {sp : Space} (v : View sig κ sp S1024x128 .f32) (f) {L : List (View.Piece (Elt Ideal) S1024x128 .f32)}
    (h : List.Forall₂ (fun p i => Piece1 (trAt SC) (trD i) p) L [7, 6, 5, 4, 3, 2, 1, 0]) (q : ℕ) {o : Fin 2 → ℕ} (ho : o = ![q, 0])
    (inb : ∀ a, S128x128.size a = 0 ∨ o a + (![8, 1] : Fin 2 → ℕ) a * (S128x128.size a - 1) < S1024x128.size a) (l : Fin 128) (g : Fin 80) :
    v.readAt (Elt Ideal) ⟨o, S128x128.size, ![8, 1], inb⟩ (v.writes (Elt Ideal) f L) (ix2 l ⟨g.val, by omega⟩) = SC g.val (8 * l.val + q) := by
  subst ho
  rw [View.readAt_apply]
  set z := LoadRect.idx (⟨![q, 0], S128x128.size, ![8, 1], inb⟩ : LoadRect S1024x128) (ix2 l ⟨g.val, by omega⟩) with hz
  have z0 : (z 0).val = q + 8 * l.val := rfl
  have z1 : (z 1).val = g.val := by show 0 + 1 * g.val = _; omega
  have hlt : (z 0).val < 1024 := (z 0).isLt
  have := read_pieces v f (trAt SC) trD h [] z
    ⟨(z 0).val / 128, (by decide : ∀ n < 8, n ∈ [7, 6, 5, 4, 3, 2, 1, 0]) _ (by omega), by unfold trD; have := g.isLt; omega⟩
  rw [List.append_nil] at this
  rw [this]
  unfold trAt
  rw [z0, z1, Nat.add_comm]

/-- The order in which the scales are stored, the last first: parity and row. -/
abbrev sclOrder : List (ℕ × ℕ) :=
  [(1, 7), (1, 3), (0, 7), (0, 3), (1, 6), (1, 2), (0, 6), (0, 2), (1, 5), (1, 1), (0, 5), (0, 1), (1, 4), (1, 0), (0, 4), (0, 0)]

theorem sclOrder_cover (y : S2x640x2x128.Idx) : ∃ i ∈ sclOrder, sclD i y := by
  have h0 : (y 0).val < 2 := (y 0).isLt
  exact ⟨((y 0).val, (y 1).val % 8),
    (by decide : ∀ a < 2, ∀ b < 8, (a, b) ∈ sclOrder) _ h0 _ (Nat.mod_lt _ (by omega)), rfl, rfl⟩

theorem scl_read {sig : RefSig} {κ : Kind} {sp : Space} (v : View sig κ sp S2x640x2x128 .bf16) (f) {L : List (View.Piece (Elt Ideal) S2x640x2x128 .bf16)}
    (h : List.Forall₂ (fun p i => Piece1 (sclAt SC) (sclD i) p) L sclOrder) (y : S2x640x2x128.Idx) :
    v.read (Elt Ideal) (v.writes (Elt Ideal) f L) y = sclAt SC y := by
  have := read_pieces v f (sclAt SC) sclD h [] y (sclOrder_cover y)
  rwa [List.append_nil] at this

/-- The scales scratch read at plain numbers. -/
theorem scl_at4 {sig : RefSig} {κ : Kind} {sp : Space} (v : View sig κ sp S2x640x2x128 .bf16) (f) {L : List (View.Piece (Elt Ideal) S2x640x2x128 .bf16)}
    (h : List.Forall₂ (fun p i => Piece1 (sclAt SC) (sclD i) p) L sclOrder) (par r ff l : ℕ) (h0 : par < 2) (h1 : r < 640) (h2 : ff < 2) (h3 : l < 128) :
    at4 (v.read (Elt Ideal) (v.writes (Elt Ideal) f L)) 0 par r ff l = SC (r / 8) (8 * l + ord (2 * (r % 4) + par)) := by
  exact (at4_eq _ 0 (ix4 (n0 := 2) (n1 := 640) (n2 := 2) (n3 := 128) ⟨par, h0⟩ ⟨r, h1⟩ ⟨ff, h2⟩ ⟨l, h3⟩) rfl rfl rfl rfl).symm.trans (scl_read v f h _)

/-- A covered load of eight rows of the scales scratch. -/
theorem s_loadCov {sig : RefSig} {κ : Kind} {sp : Space} (v : View sig κ sp S2x640x2x128 .bf16) (f) {L : List (View.Piece (Elt Ideal) S2x640x2x128 .bf16)}
    (h : List.Forall₂ (fun p i => Piece1 (sclAt SC) (sclD i) p) L sclOrder) (par b : ℕ) {o : Fin 4 → ℕ}
    (ho : o = ![par, b, 0, 0]) (inb : ∀ a, o a + S1x8x2x128.size a ≤ S2x640x2x128.size a) (r : Fin 8) (hh : Fin 2) (l : Fin 128) :
    v.readCov (Val := Elt Ideal) L (Rect.unit (s := S2x640x2x128) o S1x8x2x128.size inb).toLoadRect (ix4 0 r hh l)
      = at4 (v.read (Elt Ideal) (v.writes (Elt Ideal) f L)) 0 par (b + r.val) hh.val l.val := by
  rw [← s_load v _ par b ho inb r hh l, View.readCov_eq_canon', View.readAt_apply]
  have := exists_mem_pieces (e := .bf16) (sclAt SC) sclD h [] ((Rect.unit (s := S2x640x2x128) o S1x8x2x128.size inb).toLoadRect.idx (ix4 0 r hh l)) (sclOrder_cover _)
  rw [List.append_nil] at this
  exact (View.read_writes_apply_eq_canon v f _ L this).symm

/-- The load of 128 rows of the first scratch at the end, over the accumulators' stores. -/
theorem tmp_load {sig : RefSig} {κ : Kind} {sp : Space} (v : View sig κ sp S1024x128 .f32) (f) (a : ℕ → FVec Ideal S128x256 .f32)
    {L : List (View.Piece (Elt Ideal) S1024x128 .f32)}
    (h : List.Forall₂ (fun p i => Piece1 (tmpAt a) (tmpD i) p) L [7, 3, 6, 2, 5, 1, 4, 0]) (L' : List (View.Piece (Elt Ideal) S1024x128 .f32))
    (t : ℕ) (ht : t < 8) {o : Fin 2 → ℕ} (ho : o = ![128 * t, 0]) (inb : ∀ a, o a + S128x128.size a ≤ S1024x128.size a) (r i : Fin 128) :
    v.readAt (Elt Ideal) (Rect.unit (s := S1024x128) o S128x128.size inb).toLoadRect (v.writes (Elt Ideal) f (L ++ L')) (ix2 r i)
      = tmpAt a (ix2 (n0 := 1024) (n1 := 128) ⟨128 * t + r.val, by omega⟩ i) := by
  subst ho
  rw [View.readAt_apply]
  have hz : (Rect.unit (s := S1024x128) ![128 * t, 0] S128x128.size inb).toLoadRect.idx (ix2 r i)
      = ix2 (n0 := 1024) (n1 := 128) ⟨128 * t + r.val, by omega⟩ i := by
    funext a
    match a with
    | ⟨0, _⟩ => exact Fin.ext (by show 128 * t + 1 * r.val = 128 * t + r.val; omega)
    | ⟨1, _⟩ => exact Fin.ext (by show 0 + 1 * i.val = i.val; omega)
  rw [hz]
  refine read_pieces v f (tmpAt a) tmpD h L' _ ⟨(128 * t + r.val) % 8, ?_, rfl⟩
  exact (by decide : ∀ n < 8, n ∈ [7, 3, 6, 2, 5, 1, 4, 0]) _ (Nat.mod_lt _ (by omega))

/-- The output buffer read whole at the end. -/
theorem out_read {sig : RefSig} {κ : Kind} {sp : Space} (v : View sig κ sp S128x1024 .bf16) (f) (a : ℕ → FVec Ideal S128x256 .f32)
    {L : List (View.Piece (Elt Ideal) S128x1024 .bf16)}
    (h : List.Forall₂ (fun p i => Piece1 (outAt a) (outD i) p) L [7, 6, 5, 4, 3, 2, 1, 0]) (y : S128x1024.Idx) :
    v.read (Elt Ideal) (v.writes (Elt Ideal) f L) y = outAt a y := by
  have hlt : (y 1).val < 1024 := (y 1).isLt
  have := read_pieces v f (outAt a) outD h [] y ⟨(y 1).val / 128,
    (by decide : ∀ n < 8, n ∈ [7, 6, 5, 4, 3, 2, 1, 0]) _ (by omega), by unfold outD; omega⟩
  rwa [List.append_nil] at this

end Cert.Proof.Chunk

end
-- ==== Proof.IdealBody.lean ====
/-
  The body of the idealized kernel, run once over memrefs that hold anything: it reads the three input buffers, leaves them as
  they were, and leaves in the output buffer, at row `i` and column `C`, the sum `outVal` over the 10112 rows of the inputs.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.IdealLoop
public import proofs.«01_k».proof.Proof.Scales
public import Idealize.ShloMosaic.Lib.Tactic
public import Idealize.ShloMosaic.Lib.Pipeline.Kit

@[expose] public section

set_option maxRecDepth 16384
set_option warn.classDefReducibility false

noncomputable section

namespace Cert.Proof.IdealBody

open Cert.Proof.Chunk Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The block of scales, read at plain numbers. -/
abbrev SCf (c : Dev nD) {sp : Space} (M : Memref sig .tc sp S79x1024 .bf16) (f : Bf c M) : ℕ → ℕ → EReal := at2 (M.view.read (Elt Ideal) f) 0

/-! ## The spellings of the first and the last chunk -/

theorem pay76_eq (A B : Vec Ideal S64x128 .i32) (S : Vec Ideal S1x8x2x128 .bf16) : k0_pay76 (k0_pay74 A B S) (k0_pay75 A B S) = deq A B S := rfl
theorem pay77_eq (A B : Vec Ideal S64x128 .i32) (S : Vec Ideal S1x8x2x128 .bf16) :
    k0_pay77 A B S = deq (shrui A (broadcast S64x128 4#32)) (shrui B (broadcast S64x128 4#32)) S := rfl
theorem pay80_eq (A B : Vec Ideal S64x128 .i32) (S : Vec Ideal S1x8x2x128 .bf16) : k0_pay80 (k0_pay78 A) (k0_pay79 B) S = deq A B S := rfl
theorem pay82_eq (A B : Vec Ideal S64x128 .i32) (S : Vec Ideal S1x8x2x128 .bf16) :
    k0_pay82 (k0_pay81 A B S) = deq (shrui A (broadcast S64x128 4#32)) (shrui B (broadcast S64x128 4#32)) S := rfl
theorem pay90_eq (A B : Vec Ideal S64x128 .i32) (S : Vec Ideal S1x8x2x128 .bf16) : k0_pay90 A B S = deq A B S := rfl
theorem pay92_eq (A B : Vec Ideal S64x128 .i32) (S : Vec Ideal S1x8x2x128 .bf16) :
    k0_pay92 (k0_pay91 A B) S = deq (shrui A (broadcast S64x128 4#32)) (shrui B (broadcast S64x128 4#32)) S := rfl

theorem pay83_eq (v : Vec Ideal S128x256 .bf16) : k0_pay83 v = v := by
  funext j
  idx_vars j
  pointwise [k0_pay83]
theorem pay93_eq (v : Vec Ideal S128x128 .bf16) : k0_pay93 v = v := by
  funext j
  idx_vars j
  pointwise [k0_pay93]
theorem pay84_eq (v : Vec Ideal S128x256 .bf16) (r0 r1 : Vec Ideal S1x1x128x2x128 .bf16) : k0_pay84 v r0 r1 = k0_pay87 (k0_pay83 v) r0 r1 := rfl
theorem pay86_eq (L : FVec Ideal S128x256 .bf16) (r0 r1 : Vec Ideal S1x1x128x2x128 .bf16) : k0_pay86 L (k0_pay85 r0) r1 = k0_pay87 L r0 r1 := rfl
theorem pay88_eq (L : FVec Ideal S128x256 .bf16) (r0 r1 : Vec Ideal S1x1x128x2x128 .bf16) : k0_pay88 L r0 r1 = k0_pay87 L r0 r1 := rfl
theorem pay94_eq (acc : FVec Ideal S128x256 .f32) (v : Vec Ideal S128x128 .bf16) (r0 r1 : Vec Ideal S1x1x64x2x128 .bf16) :
    k0_pay94 acc v r0 r1 = k0_pay95 acc (k0_pay93 v) r0 r1 := rfl
theorem pay96_eq (acc : FVec Ideal S128x256 .f32) (L : FVec Ideal S128x128 .bf16) (r0 r1 : Vec Ideal S1x1x64x2x128 .bf16) :
    k0_pay96 acc L r0 r1 = k0_pay95 acc L r0 r1 := rfl
theorem pay98_eq (acc : FVec Ideal S128x256 .f32) (L : FVec Ideal S128x128 .bf16) (r0 r1 : Vec Ideal S1x1x64x2x128 .bf16) :
    k0_pay98 acc L (k0_pay97 r0) r1 = k0_pay95 acc L r0 r1 := rfl

/-- The whole body: from the seven buffers at any contents, it runs to its return with the inputs unchanged and the output
    buffer at `outVal`. -/
theorem sound_kernel (c : Dev nD) (i : grid0.Coords) (arg1 : Memref sig .tc .vmem S128x10112 .bf16) (harg1 : arg1.IsWhole) (arg2 : Memref sig .tc .vmem S10112x128 .i32) (harg2 : arg2.IsWhole) (arg3 : Memref sig .tc .vmem S79x1024 .bf16) (harg3 : arg3.IsWhole) (arg4 : Memref sig .tc .vmem S128x1024 .bf16) (harg4 : arg4.IsWhole) (arg5 : Memref sig .tc .vmem S1024x128 .f32) (harg5 : arg5.IsWhole) (arg6 : Memref sig .tc .vmem S2x640x2x128 .bf16) (harg6 : arg6.IsWhole) (arg7 : Memref sig .tc .vmem S4x2x512x2x128 .bf16) (harg7 : arg7.IsWhole)
    (f1 : Bf c arg1) (f2 : Bf c arg2) (f3 : Bf c arg3) (f4 : Bf c arg4)
    (f5 : Bf c arg5) (f6 : Bf c arg6) (f7 : Bf c arg7) (K : PUnit → sProp 𝕄) :
    iprop((pt c arg1 f1 ∗ pt c arg2 f2 ∗ pt c arg3 f3 ∗ pt c arg4 f4 ∗ pt c arg5 f5 ∗ pt c arg6 f6 ∗ pt c arg7 f7)
      ∗ ((pt c arg1 f1 ∗ pt c arg2 f2 ∗ pt c arg3 f3 ∗ (∃ f4, ⌜∀ y, arg4.view.read (Elt Ideal) f4 y = outVal (Xf c arg1 f1) (Qf c arg2 f2) (SCf c arg3 f3) (y 0).val (y 1).val⌝ ∗ pt c arg4 f4) ∗ (∃ f5, pt c arg5 f5) ∗ (∃ f6, pt c arg6 f6) ∗ (∃ f7, pt c arg7 f7)) -∗ K ⟨⟩))
      ⊢ wp frame (wpE (defs₀ (F := Ideal)) 𝒱₀ c none) Set.univ
          (cc0_awq_int4_linear i arg1 harg1 arg2 harg2 arg3 harg3 arg4 harg4 arg5 harg5 arg6 harg6 arg7 harg7) K := by
  simp only [cc0_awq_int4_linear_eq_skeleton]; unfold cc0_awq_int4_linear_skel
  iintro ⟨⟨H1, H2, H3, H4, H5, H6, H7⟩, Hk⟩
  sl_exec
  sl_step
  -- the scales, transposed and scattered by field
  have hz : ∀ C, SCf c arg3 f3 79 C = 0 := fun C => dif_neg fun h => absurd h.1 (by decide)
  have hA := fun (g : Fin 79) (C : Fin 1024) => sc_load arg3.view f3 rfl inb_S79x1024_S79x1024_0_0 g C
  have hTr : List.Forall₂ (fun p i => Piece1 (trAt (SCf c arg3 f3)) (trD i) p) (sound_kernel.sl.H5_8 c arg3 f3) [7, 6, 5, 4, 3, 2, 1, 0] :=
    .cons (tr_piece 7 rfl _ (pay28_apply _ hA hz)) <| .cons (tr_piece 6 rfl _ (pay27_apply _ hA hz)) <|
    .cons (tr_piece 5 rfl _ (pay25_apply _ hA hz)) <| .cons (tr_piece 4 rfl _ (pay24_apply _ hA hz)) <|
    .cons (tr_piece 3 rfl _ (pay23_apply _ hA hz)) <| .cons (tr_piece 2 rfl _ (pay22_apply _ hA hz)) <|
    .cons (tr_piece 1 rfl _ (pay21_apply _ hA hz)) <| .cons (tr_piece 0 rfl _ (pay20_apply _ hA hz)) .nil
  have hT := fun (q : ℕ) (o : Fin 2 → ℕ) (ho : o = ![q, 0]) inb => tr_load arg5.view f5 hTr q ho inb
  have hScl : List.Forall₂ (fun p i => Piece1 (sclAt (SCf c arg3 f3)) (sclD i) p) (sound_kernel.sl.H6_16 c arg3 arg5 f3 f5) sclOrder :=
    .cons (scl_piece 1 7 (by omega) rfl _ _ _ rfl (hT 7 _ rfl inb_S1024x128_S128x128_7_0_s_8_1)) <|
    .cons (scl_piece 1 3 (by omega) rfl _ _ _ rfl (hT 7 _ rfl inb_S1024x128_S128x128_7_0_s_8_1)) <|
    .cons (scl_piece 0 7 (by omega) rfl _ _ _ rfl (hT 5 _ rfl inb_S1024x128_S128x128_5_0_s_8_1)) <|
    .cons (scl_piece 0 3 (by omega) rfl _ _ _ rfl (hT 5 _ rfl inb_S1024x128_S128x128_5_0_s_8_1)) <|
    .cons (scl_piece 1 6 (by omega) rfl _ _ _ rfl (hT 3 _ rfl inb_S1024x128_S128x128_3_0_s_8_1)) <|
    .cons (scl_piece 1 2 (by omega) rfl _ _ _ rfl (hT 3 _ rfl inb_S1024x128_S128x128_3_0_s_8_1)) <|
    .cons (scl_piece 0 6 (by omega) rfl _ _ _ rfl (hT 1 _ rfl inb_S1024x128_S128x128_1_0_s_8_1)) <|
    .cons (scl_piece 0 2 (by omega) rfl _ _ _ rfl (hT 1 _ rfl inb_S1024x128_S128x128_1_0_s_8_1)) <|
    .cons (scl_piece 1 5 (by omega) rfl _ _ _ rfl (hT 6 _ rfl inb_S1024x128_S128x128_6_0_s_8_1)) <|
    .cons (scl_piece 1 1 (by omega) rfl _ _ _ rfl (hT 6 _ rfl inb_S1024x128_S128x128_6_0_s_8_1)) <|
    .cons (scl_piece 0 5 (by omega) rfl _ _ _ rfl (hT 4 _ rfl inb_S1024x128_S128x128_4_0_s_8_1)) <|
    .cons (scl_piece 0 1 (by omega) rfl _ _ _ rfl (hT 4 _ rfl inb_S1024x128_S128x128_4_0_s_8_1)) <|
    .cons (scl_piece 1 4 (by omega) rfl _ _ _ rfl (hT 2 _ rfl inb_S1024x128_S128x128_2_0_s_8_1)) <|
    .cons (scl_piece 1 0 (by omega) rfl _ _ _ rfl (hT 2 _ rfl inb_S1024x128_S128x128_2_0_s_8_1)) <|
    .cons (scl_piece 0 4 (by omega) rfl _ _ _ rfl (hT 0 _ rfl inb_S1024x128_S128x128_0_0_s_8_1)) <|
    .cons (scl_piece 0 0 (by omega) rfl _ _ _ rfl (hT 0 _ rfl inb_S1024x128_S128x128_0_0_s_8_1)) .nil
  have hS := fun par r g l h0 h1 h2 h3 => scl_at4 arg6.view f6 hScl par r g l h0 h1 h2 h3
  -- the first chunk's weights
  have e00 := (pay76_eq _ _ _).trans <| deq_eq_wtOf (2 * 0 + 0) _ _ _ (fun w l => q_load arg2.view f2 _ rfl inb_S10112x128_S64x128_0_0_s_2_1 w l)
    (fun w l => q_load1 arg2.view f2 _ rfl inb_S10112x128_S64x128_1_0_s_2_1 w l)
    (fun r h l => s_loadCov arg6.view f6 hScl _ _ rfl inb_S2x640x2x128_S1x8x2x128_0_0_0_0 r h l)
  have e10 := (pay77_eq _ _ _).trans <| deq_shr_eq_wtOf (2 * 0 + 0) _ _ _ (fun w l => q_load arg2.view f2 _ rfl inb_S10112x128_S64x128_0_0_s_2_1 w l)
    (fun w l => q_load1 arg2.view f2 _ rfl inb_S10112x128_S64x128_1_0_s_2_1 w l)
    (fun r h l => s_loadCov arg6.view f6 hScl _ _ rfl inb_S2x640x2x128_S1x8x2x128_1_0_0_0 r h l)
  have e01 := (pay80_eq _ _ _).trans <| deq_eq_wtOf (2 * 0 + 1) _ _ _ (fun w l => q_load arg2.view f2 _ rfl inb_S10112x128_S64x128_128_0_s_2_1 w l)
    (fun w l => q_load1 arg2.view f2 _ rfl inb_S10112x128_S64x128_129_0_s_2_1 w l)
    (fun r h l => s_load arg6.view (arg6.view.writes (Elt Ideal) f6 (sound_kernel.sl.H6_16 c arg3 arg5 f3 f5)) _ _ rfl inb_S2x640x2x128_S1x8x2x128_0_8_0_0 r h l)
  have e11 := (pay82_eq _ _ _).trans <| deq_shr_eq_wtOf (2 * 0 + 1) _ _ _ (fun w l => q_load arg2.view f2 _ rfl inb_S10112x128_S64x128_128_0_s_2_1 w l)
    (fun w l => q_load1 arg2.view f2 _ rfl inb_S10112x128_S64x128_129_0_s_2_1 w l)
    (fun r h l => s_load arg6.view (arg6.view.writes (Elt Ideal) f6 (sound_kernel.sl.H6_16 c arg3 arg5 f3 f5)) _ _ rfl inb_S2x640x2x128_S1x8x2x128_1_8_0_0 r h l)
  have hW := fun (par kk : ℕ) (hk : kk < 4) (o : Fin 5 → ℕ) (ho : o = ![0, par, kk, 0, 0]) inb u h l =>
    weights_load arg7.view 0 0 rfl rfl rfl rfl inb_S4x2x512x2x128_S1x1x256x2x128_0_0_0_0_0 inb_S4x2x512x2x128_S1x1x256x2x128_0_1_0_0_0
      inb_S4x2x512x2x128_S1x1x256x2x128_0_0_256_0_0 inb_S4x2x512x2x128_S1x1x256x2x128_0_1_256_0_0 e00 e10 e01 e11 par kk hk ho inb u h l
  have hX := fun i t => (congrFun (pay83_eq _) _).trans <| (x_load256 arg1.view f1 0 rfl inb_S128x10112_S128x256_0_0 i t).trans
    (congrArg (at2 _ 0 i.val) (Nat.zero_add t.val))
  have s0 := (pay84_eq _ _ _).trans <| first256 0 0 _ _ _ hX (hW 0 0 (by omega) _ rfl inb_S4x2x512x2x128_S1x1x128x2x128_0_0_0_0_0_s_1_1_4_1_1)
    (hW 0 1 (by omega) _ rfl inb_S4x2x512x2x128_S1x1x128x2x128_0_0_1_0_0_s_1_1_4_1_1)
  have s1 := (pay86_eq _ _ _).trans <| first256 0 1 _ _ _ hX (hW 0 2 (by omega) _ rfl inb_S4x2x512x2x128_S1x1x128x2x128_0_0_2_0_0_s_1_1_4_1_1)
    (hW 0 3 (by omega) _ rfl inb_S4x2x512x2x128_S1x1x128x2x128_0_0_3_0_0_s_1_1_4_1_1)
  have s2 := first256 1 0 _ _ _ hX (hW 1 0 (by omega) _ rfl inb_S4x2x512x2x128_S1x1x128x2x128_0_1_0_0_0_s_1_1_4_1_1)
    (hW 1 1 (by omega) _ rfl inb_S4x2x512x2x128_S1x1x128x2x128_0_1_1_0_0_s_1_1_4_1_1)
  have s3 := (pay88_eq _ _ _).trans <| first256 1 1 _ _ _ hX (hW 1 2 (by omega) _ rfl inb_S4x2x512x2x128_S1x1x128x2x128_0_1_2_0_0_s_1_1_4_1_1)
    (hW 1 3 (by omega) _ rfl inb_S4x2x512x2x128_S1x1x128x2x128_0_1_3_0_0_s_1_1_4_1_1)
  -- the 38 chunks of the loop
  have h39 : 256 * (k0_t1_loop.trips + 1) = 256 * 39 := by
    rw [show k0_t1_loop.trips = 38 by decide +kernel]
  have hit := (congrArg (fun a => iterAccs _ _ _ a k0_t1_loop.trips) (accs_of s0 s1 s2 s3)).trans
    ((iterAccs_accs _ _ _ k0_t1_loop.trips).trans (congrArg (accs _ _ _) h39))
  -- the last group
  have l00 := (pay90_eq _ _ _).trans <| deq_eq_wtOf (2 * 39 + 0) _ _ _ (fun w l => q_load arg2.view f2 _ rfl inb_S10112x128_S64x128_9984_0_s_2_1 w l)
    (fun w l => q_load1 arg2.view f2 _ rfl inb_S10112x128_S64x128_9985_0_s_2_1 w l)
    (fun r h l => s_load arg6.view (arg6.view.writes (Elt Ideal) f6 (sound_kernel.sl.H6_16 c arg3 arg5 f3 f5)) _ _ rfl inb_S2x640x2x128_S1x8x2x128_0_624_0_0 r h l)
  have l10 := (pay92_eq _ _ _).trans <| deq_shr_eq_wtOf (2 * 39 + 0) _ _ _ (fun w l => q_load arg2.view f2 _ rfl inb_S10112x128_S64x128_9984_0_s_2_1 w l)
    (fun w l => q_load1 arg2.view f2 _ rfl inb_S10112x128_S64x128_9985_0_s_2_1 w l)
    (fun r h l => s_load arg6.view (arg6.view.writes (Elt Ideal) f6 (sound_kernel.sl.H6_16 c arg3 arg5 f3 f5)) _ _ rfl inb_S2x640x2x128_S1x8x2x128_1_624_0_0 r h l)
  have hV := fun (par kk : ℕ) (hk : kk < 4) (o : Fin 5 → ℕ) (ho : o = ![3, par, kk, 0, 0]) inb u h l =>
    weights_load_last arg7.view 3 39 rfl rfl inb_S4x2x512x2x128_S1x1x256x2x128_3_0_0_0_0 inb_S4x2x512x2x128_S1x1x256x2x128_3_1_0_0_0
      l00 l10 par kk hk ho inb u h l
  have hY := fun i t => (congrFun (pay93_eq _) _).trans <| x_load128 arg1.view f1 (256 * 39) rfl inb_S128x10112_S128x128_0_9984 i t
  have t0 := (pay94_eq _ _ _ _).trans <| step128 0 0 39 _ _ _ _ (congrArg (fun a => a.1) hit) hY
    (hV 0 0 (by omega) _ rfl inb_S4x2x512x2x128_S1x1x64x2x128_3_0_0_0_0_s_1_1_4_1_1) (hV 0 1 (by omega) _ rfl inb_S4x2x512x2x128_S1x1x64x2x128_3_0_1_0_0_s_1_1_4_1_1)
  have t1 := step128 0 1 39 _ _ _ _ (congrArg (fun a => a.2.1) hit) hY
    (hV 0 2 (by omega) _ rfl inb_S4x2x512x2x128_S1x1x64x2x128_3_0_2_0_0_s_1_1_4_1_1) (hV 0 3 (by omega) _ rfl inb_S4x2x512x2x128_S1x1x64x2x128_3_0_3_0_0_s_1_1_4_1_1)
  have t2 := (pay96_eq _ _ _ _).trans <| step128 1 0 39 _ _ _ _ (congrArg (fun a => a.2.2.1) hit) hY
    (hV 1 0 (by omega) _ rfl inb_S4x2x512x2x128_S1x1x64x2x128_3_1_0_0_0_s_1_1_4_1_1) (hV 1 1 (by omega) _ rfl inb_S4x2x512x2x128_S1x1x64x2x128_3_1_1_0_0_s_1_1_4_1_1)
  have t3 := (pay98_eq _ _ _ _).trans <| step128 1 1 39 _ _ _ _ (congrArg (fun a => a.2.2.2) hit) hY
    (hV 1 2 (by omega) _ rfl inb_S4x2x512x2x128_S1x1x64x2x128_3_1_2_0_0_s_1_1_4_1_1) (hV 1 3 (by omega) _ rfl inb_S4x2x512x2x128_S1x1x64x2x128_3_1_3_0_0_s_1_1_4_1_1)
  -- the accumulators' stores, and the output's
  have hTmp : List.Forall₂ (fun p i => Piece1 (e := .f32) (tmpAt (accAt (Xf c arg1 f1) (Qf c arg2 f2)
      (Sf c arg6 (arg6.view.writes (Elt Ideal) f6 (sound_kernel.sl.H6_16 c arg3 arg5 f3 f5))))) (tmpD i) p) _ [7, 3, 6, 2, 5, 1, 4, 0] :=
    .cons (tmp_piece _ 7 (by omega) rfl inb_S1024x128_S128x128_7_0_s_8_1 spos_8_1 fun l i => (pay100_apply _ l i).trans (congrFun t3 _)) <|
    .cons (tmp_piece _ 3 (by omega) rfl inb_S1024x128_S128x128_3_0_s_8_1 spos_8_1 fun l i => (pay99_apply _ l i).trans (congrFun t3 _)) <|
    .cons (tmp_piece _ 6 (by omega) rfl inb_S1024x128_S128x128_6_0_s_8_1 spos_8_1 fun l i => (pay100_apply _ l i).trans (congrFun t2 _)) <|
    .cons (tmp_piece _ 2 (by omega) rfl inb_S1024x128_S128x128_2_0_s_8_1 spos_8_1 fun l i => (pay99_apply _ l i).trans (congrFun t2 _)) <|
    .cons (tmp_piece _ 5 (by omega) rfl inb_S1024x128_S128x128_5_0_s_8_1 spos_8_1 fun l i => (pay100_apply _ l i).trans (congrFun t1 _)) <|
    .cons (tmp_piece _ 1 (by omega) rfl inb_S1024x128_S128x128_1_0_s_8_1 spos_8_1 fun l i => (pay99_apply _ l i).trans (congrFun t1 _)) <|
    .cons (tmp_piece _ 4 (by omega) rfl inb_S1024x128_S128x128_4_0_s_8_1 spos_8_1 fun l i => (pay100_apply _ l i).trans (congrFun t0 _)) <|
    .cons (tmp_piece _ 0 (by omega) rfl inb_S1024x128_S128x128_0_0_s_8_1 spos_8_1 fun l i => (pay99_apply _ l i).trans (congrFun t0 _)) .nil
  have hO := fun (t : ℕ) (ht : t < 8) (o : Fin 2 → ℕ) (ho : o = ![128 * t, 0]) inb =>
    tmp_load arg5.view f5 _ hTmp (sound_kernel.sl.H5_8 c arg3 f3) t ht ho inb
  have hOut : List.Forall₂ (fun p i => Piece1 (e := .bf16) (outAt (accAt (Xf c arg1 f1) (Qf c arg2 f2)
      (Sf c arg6 (arg6.view.writes (Elt Ideal) f6 (sound_kernel.sl.H6_16 c arg3 arg5 f3 f5))))) (outD i) p) _ [7, 6, 5, 4, 3, 2, 1, 0] :=
    .cons (out_piece _ 7 (by omega) rfl inb_S128x1024_S128x128_0_896 _ rfl (hO 7 (by omega) _ rfl inb_S1024x128_S128x128_896_0)) <|
    .cons (out_piece _ 6 (by omega) rfl inb_S128x1024_S128x128_0_768 _ rfl (hO 6 (by omega) _ rfl inb_S1024x128_S128x128_768_0)) <|
    .cons (out_piece _ 5 (by omega) rfl inb_S128x1024_S128x128_0_640 _ rfl (hO 5 (by omega) _ rfl inb_S1024x128_S128x128_640_0)) <|
    .cons (out_piece _ 4 (by omega) rfl inb_S128x1024_S128x128_0_512 _ rfl (hO 4 (by omega) _ rfl inb_S1024x128_S128x128_512_0)) <|
    .cons (out_piece _ 3 (by omega) rfl inb_S128x1024_S128x128_0_384 _ rfl (hO 3 (by omega) _ rfl inb_S1024x128_S128x128_384_0)) <|
    .cons (out_piece _ 2 (by omega) rfl inb_S128x1024_S128x128_0_256 _ rfl (hO 2 (by omega) _ rfl inb_S1024x128_S128x128_256_0)) <|
    .cons (out_piece _ 1 (by omega) rfl inb_S128x1024_S128x128_0_128 _ rfl (hO 1 (by omega) _ rfl inb_S1024x128_S128x128_128_0)) <|
    .cons (out_piece _ 0 (by omega) rfl inb_S128x1024_S128x128_0_0 _ rfl (hO 0 (by omega) _ rfl inb_S1024x128_S128x128_0_0)) .nil
  have hR := fun y => (out_read arg4.view f4 _ hOut y).trans (outAt_eq _ _ _ hS y)
  iapply Hk
  isplitl [H1]; · iexact H1
  isplitl [H2]; · iexact H2
  isplitl [H3]; · iexact H3
  isplitl [H4]
  · iexists _
    isplitr
    · ipureintro
      exact hR
    · iexact H4
  isplitl [H5]; · iexists _; iexact H5
  isplitl [H6]; · iexists _; iexact H6
  iexists _; iexact H7

end Cert.Proof.IdealBody

end
-- ==== Proof.IdealRun.lean ====
/-
  The idealized kernel's run: the grid's 32 points, each with its block of words and of scales (the last block overhanging the
  arrays, so that nothing is said of what lies past their ends), leave in the result array, at row `i` and column `N`, the sum
  `outG` over the 10112 rows of the activation times the dequantized word. The arguments end as launched and every semaphore
  counter at zero.
-/
module

public import proofs.«01_k».proof.Proof.IdealBody
public import proofs.«01_k».proof.Proof.Gen.KernelIdeal.Frame
public import Idealize.ShloMosaic.Lib.Pipeline.FrameSuffix
public import Idealize.ShloMosaic.Lib.Pipeline.ValueKit
public import Idealize.ShloMosaic.Lib.Tactic

@[expose] public section

set_option maxRecDepth 16384

noncomputable section

namespace Cert.Proof.IdealBody

open Cert.Proof.Chunk Cert.KernelIdeal Cert.KernelIdeal.Gen
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-! ## The arrays, at plain numbers -/

/-- The activations as the region finds them, the packed words and the scales. -/
abbrev Xm (c : Dev nD) : ℕ → ℕ → EReal := at2 (a := 128) (b := 10112) (V m c main_v0) 0
abbrev Qm (c : Dev nD) : ℕ → ℕ → BitVec 32 := at2 (a := 10112) (b := 4080) (V m c main_arg1) 0
abbrev SCm (c : Dev nD) : ℕ → ℕ → EReal := at2 (a := 79) (b := 32640) (V m c main_arg2) 0

/-- The result at row `i`, column `N`: the field of word column `N / 8` that holds output column `N`, sign-extended, times the
    row group's scale, times the activation, summed over the rows. -/
abbrev outG (c : Dev nD) (i N : ℕ) : EReal := outVal (Xm m c) (Qm m c) (SCm m c) i N

theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)
theorem index0 : ∀ t : Fin cfg0.N, win0_0.index t = ![0, 0] := (by decide +kernel : ∀ t : Fin grid0.N, _)

theorem xsize1 : ∀ t : Fin cfg0.N, win0_1.xsize (grid0.coords t) 1 = min 128 (4080 - 128 * t.val) := (by decide +kernel : ∀ t : Fin grid0.N, _)
theorem xsize1' : ∀ t : Fin cfg0.N, win0_1.xsize (grid0.coords t) 0 = 10112 := (by decide +kernel : ∀ t : Fin grid0.N, _)
theorem xsize2 : ∀ t : Fin cfg0.N, win0_2.xsize (grid0.coords t) 1 = min 1024 (32640 - 1024 * t.val) := (by decide +kernel : ∀ t : Fin grid0.N, _)
theorem xsize2' : ∀ t : Fin cfg0.N, win0_2.xsize (grid0.coords t) 0 = 79 := (by decide +kernel : ∀ t : Fin grid0.N, _)
theorem xsize3 : ∀ t : Fin cfg0.N, win0_3.xsize (grid0.coords t) 1 = min 1024 (32640 - 1024 * t.val) := (by decide +kernel : ∀ t : Fin grid0.N, _)

/-- The block of activations is the whole array. -/
theorem X_blk (c : Dev nD) (t : Fin cfg0.N) : (iblk m c 0 t : S128x10112.Idx → EReal) = V m c main_v0 := by
  funext j
  blk_simp [iblk]
  congr 1
  funext a
  apply Fin.ext
  match a with
  | ⟨0, _⟩ => blk_simp [index0]
  | ⟨1, _⟩ => blk_simp [index0]

/-- Inside the array, the block of words filled out past the array's end is the array at the block's columns. -/
theorem Q_blk (c : Dev nD) (t : Fin cfg0.N) (d : S10112x128.Idx → BitVec 32) (kk L : ℕ) (hk : kk < 10112) (hL : L < 128)
    (h : 128 * t.val + L < 4080) :
    at2 (a := 10112) (b := 128) (win0_1.fill (grid0.coords t) d (iblk m c 1 t)) 0 kk L = Qm m c kk (128 * t.val + L) := by
  unfold at2
  rw [dif_pos ⟨hk, hL⟩]
  unfold Pipeline.Window.fill
  rw [dif_pos ((win0_1.moved_iff _ _).mpr fun a => by
    match a with
    | ⟨0, _⟩ => exact hk.trans_eq (xsize1' t).symm
    | ⟨1, _⟩ => exact (show L < min 128 (4080 - 128 * t.val) by omega).trans_eq (xsize1 t).symm)]
  blk_simp [iblk]
  refine at2_eq (a := 10112) (b := 4080) _ _ _ ?_ ?_
  · blk_simp [index1]
  · blk_simp [index1]; simp [Nat.mul_comm]

theorem S_blk (c : Dev nD) (t : Fin cfg0.N) (d : S79x1024.Idx → EReal) (g C : ℕ) (hg : g < 79) (hC : C < 1024)
    (h : 1024 * t.val + C < 32640) :
    at2 (a := 79) (b := 1024) (win0_2.fill (grid0.coords t) d (iblk m c 2 t)) 0 g C = SCm m c g (1024 * t.val + C) := by
  unfold at2
  rw [dif_pos ⟨hg, hC⟩]
  unfold Pipeline.Window.fill
  rw [dif_pos ((win0_2.moved_iff _ _).mpr fun a => by
    match a with
    | ⟨0, _⟩ => exact hg.trans_eq (xsize2' t).symm
    | ⟨1, _⟩ => exact (show C < min 1024 (32640 - 1024 * t.val) by omega).trans_eq (xsize2 t).symm)]
  blk_simp [iblk]
  refine at2_eq (a := 79) (b := 32640) _ _ _ ?_ ?_
  · blk_simp [index2]
  · blk_simp [index2]; simp [Nat.mul_comm]

/-- On the columns inside the array the body's sum, of its own block, is the array's. -/
theorem out_blk (c : Dev nD) (t : Fin cfg0.N) (d1 : S10112x128.Idx → BitVec 32) (d2 : S79x1024.Idx → EReal) (i C : ℕ) (hC : C < 1024)
    (h : 1024 * t.val + C < 32640) :
    outVal (at2 (a := 128) (b := 10112) (iblk m c 0 t) 0) (at2 (a := 10112) (b := 128) (win0_1.fill (grid0.coords t) d1 (iblk m c 1 t)) 0)
        (at2 (a := 79) (b := 1024) (win0_2.fill (grid0.coords t) d2 (iblk m c 2 t)) 0) i C
      = outG m c i (1024 * t.val + C) := by
  unfold outG outVal
  refine Finset.sum_congr rfl fun kk hkk => ?_
  have hk : kk < 10112 := Finset.mem_range.mp hkk
  rw [Q_blk m c t d1 kk (C / 8) hk (by omega) (by omega), S_blk m c t d2 (kk / 128) C (by omega) hC h, X_blk,
    show 128 * t.val + C / 8 = (1024 * t.val + C) / 8 by omega, show (1024 * t.val + C) % 8 = C % 8 by omega]

/-! ## The proof data -/

/-- The arrays as the region finds them; after the body the inputs' buffers hold their blocks and the output's the sums, each
    said only on the part inside its array; the scratch buffers hold anything between the points. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0#32 : Elt Ideal .i32)) (iblk m c 1 t)
    | ⟨2, _⟩ => win0_2.fill (grid0.coords t) (fun _ => (0 : Elt Ideal .bf16)) (iblk m c 2 t)
    | ⟨3, _⟩ => fun y : S128x1024.Idx => outG m c (y 0).val (1024 * t.val + (y 1).val)
  Φ _ := Pipeline.ΦA spec0 c
  q _ := fullShare
  owed _ := 0

theorem A_eq (c : Dev nD) (w : Fin cfg0.W) : (dats m 0 c).A w = V m c (Pipeline.arrRef spec0 w) := by dsimp only [dats]

theorem before0 (c : Dev nD) (t : Fin cfg0.N) (d) : (dats m 0 c).before (0 : Fin 4) t d = iblk m c 0 t :=
  before0_0_of m (dats m 0 c) (A_eq m c 0) (fun _ => rfl) t d
theorem before1 (c : Dev nD) (t : Fin cfg0.N) (d) :
    (dats m 0 c).before (1 : Fin 4) t d = win0_1.fill (grid0.coords t) d (iblk m c 1 t) := by
  unfold Dat.before; rw [if_pos (fetch0_1 t)]; rfl
theorem before2 (c : Dev nD) (t : Fin cfg0.N) (d) :
    (dats m 0 c).before (2 : Fin 4) t d = win0_2.fill (grid0.coords t) d (iblk m c 2 t) := by
  unfold Dat.before; rw [if_pos (fetch0_2 t)]; rfl

/-- The three scratch buffers at any contents, and the generator register at any state. -/
theorem Phi_eq (c : Dev nD) : (Pipeline.ΦA spec0 c : sProp 𝕄)
    = iprop(((∃ f, pt c (Memref.whole cc0_scratch0) f) ∗ (∃ f, pt c (Memref.whole cc0_scratch1) f)
        ∗ (∃ f, pt c (Memref.whole cc0_scratch2) f)) ∗ ∃ r, prngReg c r) := by
  unfold Pipeline.ΦA; rw [scopedRest0_eq]

/-- Owning a whole memref at `X` is its points-to at contents that read `X`. -/
theorem owns_pt (c : Dev nD) {sp : Space} {S : Shape} {e : EltTy} (M : Memref sig .tc sp S e) (h : M.IsWhole) (X : S.Idx → Elt Ideal e) :
    (owns (c : Thread nD τ) M fullShare X : sProp 𝕄) = iprop(∃ f, ⌜M.view.read (Elt Ideal) f = X⌝ ∗ pt c M f) := by
  unfold owns pt; rw [h.set_eq_univ]

/-- The body at a point, over the contents of its buffers. -/
theorem sound_body (c : Dev nD) (t : Fin cfg0.N) (X0 : S128x10112.Idx → EReal) (X1 : S10112x128.Idx → BitVec 32) (X2 : S79x1024.Idx → EReal)
    (X3 : S128x1024.Idx → EReal) (K : PUnit → sProp 𝕄) :
    iprop((Pipeline.ΦA spec0 c ∗ owns (c : Thread nD τ) (st0_0 t) fullShare X0 ∗ owns (c : Thread nD τ) (st0_1 t) fullShare X1
        ∗ owns (c : Thread nD τ) (st0_2 t) fullShare X2 ∗ owns (c : Thread nD τ) (st0_3 t) fullShare X3)
      ∗ ((Pipeline.ΦA spec0 c ∗ owns (c : Thread nD τ) (st0_0 t) fullShare X0 ∗ owns (c : Thread nD τ) (st0_1 t) fullShare X1
        ∗ owns (c : Thread nD τ) (st0_2 t) fullShare X2
        ∗ owns (c : Thread nD τ) (st0_3 t) fullShare (fun y => outVal (at2 (a := 128) (b := 10112) X0 0) (at2 (a := 10112) (b := 128) X1 0)
            (at2 (a := 79) (b := 1024) X2 0) (y 0).val (y 1).val)) -∗ K ⟨⟩))
      ⊢ wp frame (wpE (defs₀ (F := Ideal)) 𝒱₀ c none) Set.univ (bodyAt0 t) K := by
  rw [Phi_eq, owns_pt c (st0_0 t) (hstage0_0 ((cfg0.slots t 0).cast nbuf0_0)), owns_pt c (st0_1 t) (hstage0_1 ((cfg0.slots t 1).cast nbuf0_1)),
    owns_pt c (st0_2 t) (hstage0_2 ((cfg0.slots t 2).cast nbuf0_2)), owns_pt c (st0_3 t) (hstage0_3 ((cfg0.slots t 3).cast nbuf0_3)),
    owns_pt c (st0_3 t) (hstage0_3 ((cfg0.slots t 3).cast nbuf0_3))]
  iintro ⟨⟨⟨⟨⟨%f5, H5⟩, ⟨%f6, H6⟩, ⟨%f7, H7⟩⟩, Hg⟩, ⟨%f1, %h1, H1⟩, ⟨%f2, %h2, H2⟩, ⟨%f3, %h3, H3⟩, ⟨%f4, %h4, H4⟩⟩, Hk⟩
  iapply (sound_kernel c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (Memref.whole cc0_scratch0) (Memref.isWhole_whole _) (Memref.whole cc0_scratch1) (Memref.isWhole_whole _)
    (Memref.whole cc0_scratch2) (Memref.isWhole_whole _) f1 f2 f3 f4 f5 f6 f7)
  isplitl [H1 H2 H3 H4 H5 H6 H7]
  · sl_close
  iintro ⟨H1, H2, H3, ⟨%g4, %e4, H4⟩, H5, H6, H7⟩
  iapply Hk
  isplitl [H5 H6 H7 Hg]
  · isplitl [H5 H6 H7]
    · isplitl [H5]; · iexact H5
      isplitl [H6]; · iexact H6
      iexact H7
    iexact Hg
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  iexists g4; isplitr
  · ipureintro
    funext y
    rw [← h1, ← h2, ← h3]
    exact e4 y
  iexact H4

theorem defs₀_row (t : Fin cfg0.N) : defs₀ (F := Ideal) .tc cfg0.body (cfg0.bodyArgs t (cfg0.slots t)) = bodyAt0 t := by
  unfold defs₀; rw [Defs.onTc_tc]

theorem after1_eq (c : Dev nD) (t : Fin cfg0.N) :
    (dats m 0 c).after 1 t = win0_1.fill (grid0.coords t) (fun _ => (0#32 : Elt Ideal .i32)) (iblk m c 1 t) := by
  dsimp only [dats]
theorem after1 (c : Dev nD) (t : Fin cfg0.N) : (win0 1).cut (grid0.coords t) ((dats m 0 c).after 1 t) = iblk m c 1 t := by
  rw [after1_eq]
  exact win0_1.cut_fill _ _ _
theorem after2 (c : Dev nD) (t : Fin cfg0.N) : (win0 2).cut (grid0.coords t) ((dats m 0 c).after 2 t) = iblk m c 2 t :=
  win0_2.cut_fill _ _ _
/-- The output's buffer, filled out past the array's end by what the body left there, is what the body left. -/
theorem after3 (c : Dev nD) (t : Fin cfg0.N) (d1 : S10112x128.Idx → BitVec 32) (d2 : S79x1024.Idx → EReal) :
    (win0 3).fill (grid0.coords t) (fun y : S128x1024.Idx => outVal (at2 (a := 128) (b := 10112) (iblk m c 0 t) 0)
        (at2 (a := 10112) (b := 128) (win0_1.fill (grid0.coords t) d1 (iblk m c 1 t)) 0)
        (at2 (a := 79) (b := 1024) (win0_2.fill (grid0.coords t) d2 (iblk m c 2 t)) 0) (y 0).val (y 1).val)
      ((win0 3).cut (grid0.coords t) ((dats m 0 c).after 3 t))
    = (fun y : S128x1024.Idx => outVal (at2 (a := 128) (b := 10112) (iblk m c 0 t) 0)
        (at2 (a := 10112) (b := 128) (win0_1.fill (grid0.coords t) d1 (iblk m c 1 t)) 0)
        (at2 (a := 79) (b := 1024) (win0_2.fill (grid0.coords t) d2 (iblk m c 2 t)) 0) (y 0).val (y 1).val) := by
  refine win0_3.fill_congr_cut (grid0.coords t) (funext fun j => ?_)
  have hj : (j 1).val < win0_3.xsize (grid0.coords t) 1 := (j 1).isLt
  rw [xsize3] at hj
  exact out_blk m c t d1 d2 (j 0).val (j 1).val (by omega) (by omega)

/-- The library's body obligation: each clipped window is handed back stated on the part inside its array. -/
theorem body_obligation (c : Dev nD) : BodyObligationLoose (dats m 0 c) (defs₀ (F := Ideal)) 𝒱₀ () Set.univ := fun t => by
  rw [bigSep_W0, bigSep_W0, defs₀_row]
  simp only
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0 m c t d0, before1 m c t d1, before2 m c t d2]
  iapply (sound_body c t (iblk m c 0 t) (win0_1.fill (grid0.coords t) d1 (iblk m c 1 t)) (win0_2.fill (grid0.coords t) d2 (iblk m c 2 t))
    ((dats m 0 c).before (3 : Fin 4) t d3) _)
  isplitl [HΦ H0 H1 H2 H3]
  · isplitl [HΦ]; · iexact HΦ
    isplitl [H0]; · iexact H0
    isplitl [H1]; · iexact H1
    isplitl [H2]; · iexact H2
    iexact H3
  iintro ⟨HΦ, H0, H1, H2, H3⟩
  isplitl [HΦ]; · iexact HΦ
  isplitl [Ho]; · iexact Ho
  isplitl [H0]; · iexact H0
  isplitl [H1]
  · iexists d1
    rw [after1]; iexact H1
  isplitl [H2]
  · iexists d2
    rw [after2]; iexact H2
  · iexists (fun y : S128x1024.Idx => outVal (at2 (a := 128) (b := 10112) (iblk m c 0 t) 0)
      (at2 (a := 10112) (b := 128) (win0_1.fill (grid0.coords t) d1 (iblk m c 1 t)) 0)
      (at2 (a := 79) (b := 1024) (win0_2.fill (grid0.coords t) d2 (iblk m c 2 t)) 0) (y 0).val (y 1).val)
    rw [after3 m c t d1 d2]; iexact H3

set_option backward.isDefEq.respectTransparency.types false in
/-- Every execution terminates; the arrays are as the write-backs leave them, the later host line's result as that line
    leaves it, and every semaphore counter is zero. -/
theorem run_main :
    θ_run defs (onTc (τ := τ) (main (F := Ideal))) (s₀ m ρ)
      (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := A_eq m) (hΦ := fun _ _ => rfl) (hQ' := fun _ h => h)

/-- The result array of the region, in closed form. -/
theorem final_out (c : Dev nD) :
    (dats m 0 c).arrAt 3 cfg0.N = (fun y : S128x32640.Idx => outG m c (y 0).val (y 1).val) := by
  refine (dats m 0 c).arrAt_eq_of_covers 3 _ (by decide +kernel) fun t hf y => ?_
  blk_simp
  rw [index3]
  show outG m c (y 0).val (1024 * t.val + (y 1).val) = outG m c (0 * 128 + (y 0).val) (t.val * 1024 + (y 1).val)
  rw [Nat.zero_mul, Nat.zero_add, Nat.mul_comm]

end Cert.Proof.IdealBody

end
-- ==== Proof.Result.lean ====
/-
  The result both programs compute, as one function of the three arguments (`resOf`): row `i` and output column `N` hold the sum
  over the 10112 rows of the activation times the sign-extended field times the scale.
-/
module

public import proofs.«01_k».proof.Proof.Loads
public import proofs.«01_k».proof.Proof.Scales

@[expose] public section

noncomputable section

namespace Cert.Proof.Chunk

open Idealize Idealize.ShloMosaic

/-- The activations argument as a matrix: its middle axis has one index. -/
def rows (f : (⟨3, ![128, 1, 10112]⟩ : Shape).Idx → EReal) : (⟨2, ![128, 10112]⟩ : Shape).Idx → EReal := fun y => f (ix3 (y 0) 0 (y 1))

/-- The result as a function of the three arguments: the activations, the packed words and the scales. -/
def resOf (X : (⟨3, ![128, 1, 10112]⟩ : Shape).Idx → EReal) (Q : (⟨2, ![10112, 4080]⟩ : Shape).Idx → BitVec 32)
    (S : (⟨2, ![79, 32640]⟩ : Shape).Idx → EReal) : (⟨3, ![128, 1, 32640]⟩ : Shape).Idx → EReal :=
  fun y => outVal (at2 (a := 128) (b := 10112) (rows X) 0) (at2 (a := 10112) (b := 4080) Q 0) (at2 (a := 79) (b := 32640) S 0) (y 0).val (y 2).val

end Cert.Proof.Chunk

end
-- ==== Proof.IdealResult.lean ====
/-
  What the idealized kernel returns: the host's reshape before the grid is undone by reading the argument, the one after it by
  reading the result array, so that row `i` and output column `N` of the result are `outVal` of the arguments as launched
  (`run_value`). The arguments end as launched and every semaphore counter at zero (`quiescent`).
-/
module

public import proofs.«01_k».proof.Proof.IdealRun
public import proofs.«01_k».proof.Proof.Result
public import Idealize.ShloMosaic.Lib.Claim
public import Idealize.ShloMosaic.Lib.Pointwise

@[expose] public section

set_option maxRecDepth 16384

noncomputable section

namespace Cert.Proof.IdealBody

open Cert.Proof.Chunk Cert.KernelIdeal Cert.KernelIdeal.Gen
open Idealize Idealize.ShloMosaic Idealize.ShloMosaic.TcCoe Idealize.ShloMosaic.Tactic
open Idealize.SL.Sem

variable (m : (ℓ : Loc nD τ sig) → Buf (Elt Ideal) ℓ) (ρ : Dev nD → PrngReg)

/-- A reshape that drops the unit middle axis, and one that adds it, at an index. -/
theorem flat3_apply (f : S128x1x10112.Idx → EReal) (h : S128x1x10112.ShapeCasts S128x10112) (y : S128x10112.Idx) :
    shapeCast S128x10112 f h y = f (ix3 (y 0) 0 (y 1)) := by
  pointwise

theorem flat2_apply (f : S128x32640.Idx → EReal) (h : S128x32640.ShapeCasts S128x1x32640) (y : S128x1x32640.Idx) :
    shapeCast S128x1x32640 f h y = f (ix2 (y 0) (y 2)) := by
  pointwise

/-- The result of the program, on each device. -/
def resI (c : Dev nD) : S128x1x32640.Idx → EReal :=
  resOf (m ((c.tc : Thread nD τ).loc main_arg0)) (m ((c.tc : Thread nD τ).loc main_arg1)) (m ((c.tc : Thread nD τ).loc main_arg2))

theorem V_rows (c : Dev nD) : V m c main_v0 = rows (m ((c.tc : Thread nD τ).loc main_arg0)) := by
  show StableHlo.after (List.flatten [hostOps0]) (fun b => m (c, b)) (Proc.devRef .tc main_v0) = _
  simp only [hostOps0, List.flatten_cons, List.flatten_nil, List.append_nil, StableHlo.after_cons, StableHlo.after_nil]
  rw [StableHlo.reshape_result]
  funext y
  refine Eq.trans (b := shapeCast S128x10112 (m ((c.tc : Thread nD τ).loc main_arg0) : S128x1x10112.Idx → EReal) shapeCasts_S128x1x10112_S128x10112 y) rfl ?_
  unfold rows
  exact flat3_apply _ _ _

theorem arr_inj : Function.Injective (Pipeline.arrRef spec0) := by decide

theorem W_main_v2 (c : Dev nD) : Pipeline.afterTail₀ cfgs (dats m) 0 (V0 m) [hostOps1] c main_v2 = resI m c := by
  unfold Pipeline.afterTail₀
  simp only [hostOps1, List.flatten_cons, List.flatten_nil, List.append_nil, StableHlo.after_cons, StableHlo.after_nil]
  rw [StableHlo.reshape_result]
  have h : Pipeline.withArrays (cfgs 0).spec c (V0 m c) (fun w => (dats m 0 c).arrAt w (cfgs 0).N) (Proc.devRef .tc main_v1)
      = (fun y : S128x32640.Idx => outG m c (y 0).val (y 1).val) :=
    (Pipeline.withArrays_arr (cfgs 0).spec arr_inj c (V0 m c) (fun w => (dats m 0 c).arrAt w (cfgs 0).N) 3).trans (final_out m c)
  rw [h]
  funext y
  refine Eq.trans (b := shapeCast S128x1x32640 (fun y : S128x32640.Idx => outG m c (y 0).val (y 1).val) shapeCasts_S128x32640_S128x1x32640 y) rfl ?_
  unfold resI resOf outG Xm Qm SCm
  rw [V_rows m c, V_main_arg1 m c, V_main_arg2 m c]
  exact flat2_apply _ _ _

/-- The run: the result, the arguments as launched, and the counters at zero. -/
theorem run_value : θ_run defs (onTc (τ := τ) (main (F := Ideal))) ⟨m, fun _ => 0, ρ⟩ (fun r => (∀ c : Dev nD,
      r.2.mem ((c.tc : Thread nD τ).loc main_v2) = resI m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c =>
      ⟨((h.1 c).2 main_v2 (Pipeline.mem_restRefs_of main_v2 (by decide) (by decide))).trans (W_main_v2 m c),
       ((h.1 c).2 main_arg0 (Pipeline.mem_restRefs_of main_arg0 (by decide) (by decide))).trans (W_main_arg0 m (dats m) c),
       ((h.1 c).1 1).trans (((dats m 0 c).arrAt_in 1 rfl _).trans (V_main_arg1 m c)),
       ((h.1 c).1 2).trans (((dats m 0 c).arrAt_in 2 rfl _).trans (V_main_arg2 m c))⟩, h.2⟩) (run_main m ρ)

/-- The frame claim of the idealized kernel. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2, h.2⟩) (run_value m ρ)

end Cert.Proof.IdealBody

end
-- ==== Proof.Reference.lean ====
/-
  The reference's result: row `i` and output column `C` hold the sum over the 10112 rows of the activation times the
  field of word column `C / 8` that holds column `C`, sign-extended, times the scale of the row's group (`reference_apply`).
  The reference writes a field as a left shift, then an arithmetic right shift; `nibble_shifts` reads the pair.
-/
module

public import proofs.«01_k».proof.Proof.Result
public import proofs.«01_k».proof.Proof.Gen.ReferenceIdeal.Run
public import Idealize.ShloMosaic.Lib.Pointwise

@[expose] public section

set_option maxRecDepth 16384

noncomputable section

namespace Cert.Proof.Reference

open Cert.ReferenceIdeal Cert.ReferenceIdeal.Gen Cert.ReferenceIdeal.Value
open Idealize Idealize.ShloMosaic Idealize.ShloMosaic.TcCoe Idealize.SL.Sem
open Cert.Proof
open Cert.Proof.Chunk (nibble at2 at2_eq outVal rows resOf)

/-- One of the eight products of the reference: the words' field at the shift `a`, scaled by scale column `k` of each eight,
    contracted with the activations. -/
def field (X : Vec Ideal S128x1x10112 .bf16) (Q : Vec Ideal S10112x4080 .i32) (S : Vec Ideal S79x32640 .bf16) (a : BitVec 32) (k : ℕ)
    (h : S79x4080x8.Slices ![0, 0, k] S79x4080x1) : Vec Ideal S128x1x4080 .f32 :=
  Host.dotGeneral (F := Ideal) (φ₁ := .bf16) (φ₂ := .bf16) dot_S128x1x10112_S10112x4080_S128x1x4080_2_0_01_1_n_n none X (shapeCast _ (mulf (shapeCast _ (sitofp .bf16 (Host.shrsi (Host.shli Q (broadcastInDim S10112x4080 ![] bcast_S_S10112x4080 (constantI S_ 32 a))) (broadcastInDim S10112x4080 ![] bcast_S_S10112x4080 (constantI S_ 32 28#32)))) shapeCasts_S10112x4080_S79x128x4080) (broadcastInDim S79x128x4080 ![0, 1, 2] bcast_S79x1x4080_S79x128x4080_0_1_2 (broadcastInDim S79x1x4080 ![0, 2] bcast_S79x4080_S79x1x4080_0_2 (shapeCast _ (extractStridedSlice S79x4080x1 ![0, 0, k] (shapeCast _ S shapeCasts_S79x32640_S79x4080x8) h) shapeCasts_S79x4080x1_S79x4080)))) shapeCasts_S79x128x4080_S10112x4080)

/-- A left shift by `28 - 4 f`, then an arithmetic right shift by 28, leaves field `f` of the word, sign-extended. -/
theorem shifts_eq (w : BitVec 32) (f : ℕ) (hf : f < 8) :
    ((w <<< (28 - 4 * f)).sshiftRight 28).toInt = ((w >>> (4 * f)).setWidth 4 : BitVec 4).toInt := by
  rw [← BitVec.toInt_signExtend_of_le (v := 32) (w := 4) (x := (w >>> (4 * f)).setWidth 4) (by omega)]
  congr 1
  apply BitVec.eq_of_getLsbD_eq
  intro i hi
  rw [BitVec.getLsbD_sshiftRight, BitVec.getLsbD_signExtend]
  by_cases h4 : i < 4
  · simp [h4, hi, show 28 + i < 32 by omega, BitVec.getLsbD_shiftLeft, BitVec.getLsbD_setWidth, BitVec.getLsbD_ushiftRight,
      show ¬ 28 + i < 28 - 4 * f by omega, show 28 + i - (28 - 4 * f) = 4 * f + i by omega, show ¬ 32 ≤ i by omega]
    exact (BitVec.getLsbD_eq_getElem (by omega)).symm
  · simp [h4, hi, show ¬ 28 + i < 32 by omega, BitVec.msb_eq_getLsbD_last, BitVec.getLsbD_shiftLeft, BitVec.getLsbD_setWidth, BitVec.getLsbD_ushiftRight,
      show ¬ 31 < 28 - 4 * f by omega, show 31 - (28 - 4 * f) = 4 * f + 3 by omega, show ¬ 32 ≤ i by omega]
    exact (BitVec.getLsbD_eq_getElem (by omega)).symm

/-- The same at the two operations of the reference, converted to a float. -/
theorem nibble_shifts (w : BitVec 32) (f : ℕ) (hf : f < 8) :
    (FloatOps.sitofp (F := Ideal) .bf16 (IntOp.shrsi .host (IntOp.shli .host w (BitVec.ofNat 32 (28 - 4 * f))) 28#32) : EReal) = nibble w f := by
  have ha : (BitVec.ofNat 32 (28 - 4 * f)).toNat = 28 - 4 * f := by
    rw [BitVec.toNat_ofNat]; omega
  have e : IntOp.shrsi .host (IntOp.shli .host w (BitVec.ofNat 32 (28 - 4 * f))) 28#32 = (w <<< (28 - 4 * f)).sshiftRight 28 := by
    unfold IntOp.shrsi IntOp.shli
    rw [if_pos (by decide), if_pos (by omega)]
    show (w <<< (BitVec.ofNat 32 (28 - 4 * f)).toNat).sshiftRight 28 = _
    rw [ha]
  rw [e]
  show (((((w <<< (28 - 4 * f)).sshiftRight 28).toInt : ℝ)) : EReal) = _
  rw [shifts_eq w f hf]
  rfl

/-- A product of the reference at an index. -/
theorem field_apply (X : Vec Ideal S128x1x10112 .bf16) (Q : Vec Ideal S10112x4080 .i32) (S : Vec Ideal S79x32640 .bf16) (f k : ℕ)
    (h : S79x4080x8.Slices ![0, 0, k] S79x4080x1) (hf : f < 8) (hk : k < 8) (i : Fin 128) (n : Fin 4080) :
    field X Q S (BitVec.ofNat 32 (28 - 4 * f)) k h (ix3 i 0 n)
      = ∑ x : Fin 10112, X (ix3 i 0 x) * (nibble (Q (ix2 x n)) f * S (ix2 ⟨x.val / 128, by omega⟩ ⟨n.val * 8 + k, by omega⟩)) := by
  simp only [← nibble_shifts _ f hf]
  pointwise [field]

/-- The product at place `k` of the result's eights is the closed form there: the field in place `k` is `inv k`. -/
theorem field_outVal (X : Vec Ideal S128x1x10112 .bf16) (Q : Vec Ideal S10112x4080 .i32) (S : Vec Ideal S79x32640 .bf16) (f k : ℕ)
    (h : S79x4080x8.Slices ![0, 0, k] S79x4080x1) (hf : f < 8) (hk : k < 8) (i : Fin 128) (n : Fin 4080) (C : ℕ) (hC : C / 8 = n.val)
    (hCk : C % 8 = k) (hinv : Chunk.inv k = f) :
    field X Q S (BitVec.ofNat 32 (28 - 4 * f)) k h (ix3 i 0 n)
      = outVal (at2 (a := 128) (b := 10112) (rows X) 0) (at2 (a := 10112) (b := 4080) Q 0) (at2 (a := 79) (b := 32640) S 0) i.val C := by
  rw [field_apply X Q S f k h hf hk i n]
  unfold outVal
  rw [Finset.sum_range]
  refine Finset.sum_congr rfl fun x _ => ?_
  rw [hCk, hinv, hC]
  congr 1
  · exact at2_eq (a := 128) (b := 10112) (rows X) 0 (ix2 i x) rfl rfl
  · congr 1
    · exact congrArg (nibble · f) (at2_eq (a := 10112) (b := 4080) Q 0 (ix2 x n) rfl rfl)
    · exact at2_eq (a := 79) (b := 32640) S 0 (ix2 _ _) rfl (show n.val * 8 + k = C by omega)

/-- The eight products laid side by side in the last axis, then flattened: the reference's last steps. -/
def stacked (A : Fin 8 → Vec Ideal S128x1x4080 .f32) : Vec Ideal S128x1x32640 .bf16 :=
  truncf (F := Ideal) (φ := .f32) .bf16 (shapeCast _ (concatenate S128x1x4080x8 3 [⟨S128x1x4080x1, broadcastInDim S128x1x4080x1 ![0, 1, 2] bcast_S128x1x4080_S128x1x4080x1_0_1_2 (A 0)⟩, ⟨S128x1x4080x1, broadcastInDim S128x1x4080x1 ![0, 1, 2] bcast_S128x1x4080_S128x1x4080x1_0_1_2 (A 1)⟩, ⟨S128x1x4080x1, broadcastInDim S128x1x4080x1 ![0, 1, 2] bcast_S128x1x4080_S128x1x4080x1_0_1_2 (A 2)⟩, ⟨S128x1x4080x1, broadcastInDim S128x1x4080x1 ![0, 1, 2] bcast_S128x1x4080_S128x1x4080x1_0_1_2 (A 3)⟩, ⟨S128x1x4080x1, broadcastInDim S128x1x4080x1 ![0, 1, 2] bcast_S128x1x4080_S128x1x4080x1_0_1_2 (A 4)⟩, ⟨S128x1x4080x1, broadcastInDim S128x1x4080x1 ![0, 1, 2] bcast_S128x1x4080_S128x1x4080x1_0_1_2 (A 5)⟩, ⟨S128x1x4080x1, broadcastInDim S128x1x4080x1 ![0, 1, 2] bcast_S128x1x4080_S128x1x4080x1_0_1_2 (A 6)⟩, ⟨S128x1x4080x1, broadcastInDim S128x1x4080x1 ![0, 1, 2] bcast_S128x1x4080_S128x1x4080x1_0_1_2 (A 7)⟩] concatenates_S128x1x4080x1_S128x1x4080x1_S128x1x4080x1_S128x1x4080x1_S128x1x4080x1_S128x1x4080x1_S128x1x4080x1_S128x1x4080x1_S128x1x4080x8_d3) shapeCasts_S128x1x4080x8_S128x1x32640) bitsLt_bf16_f32

/-- The choice of a piece by its number. -/
theorem choice (B : Fin 8 → EReal) (r : ℕ) (k : Fin 8) (h : r = k.val) :
    (if _ : r < 1 then B 0 else if _ : r - 1 < 1 then B 1 else if _ : r - 1 - 1 < 1 then B 2 else if _ : r - 1 - 1 - 1 < 1 then B 3
      else if _ : r - 1 - 1 - 1 - 1 < 1 then B 4 else if _ : r - 1 - 1 - 1 - 1 - 1 < 1 then B 5
      else if _ : r - 1 - 1 - 1 - 1 - 1 - 1 < 1 then B 6 else B 7) = B k := by
  subst h
  fin_cases k <;> rfl

/-- At output column `C` stands product `C % 8` at word column `C / 8`. -/
theorem stacked_apply (A : Fin 8 → Vec Ideal S128x1x4080 .f32) (i : Fin 128) (C : Fin 32640) :
    stacked A (ix3 i 0 C) = A ⟨C.val % 8, by omega⟩ (ix3 i 0 ⟨C.val / 8, by omega⟩) := by
  pointwise [stacked]
  exact choice (fun k => A k (ix3 i 0 ⟨C.val / 8, by omega⟩)) (C.val % 8) ⟨C.val % 8, by omega⟩ rfl

/-- The slice of the scales at place `k` of each eight. -/
theorem slices_k (k : Fin 8) : S79x4080x8.Slices ![0, 0, k.val] S79x4080x1 := by
  revert k; decide

/-- The program's term, opened: the eight products, stacked. -/
theorem res_eq (m : (ℓ : Loc nD τ sig) → Buf (Elt Ideal) ℓ) (c : Dev nD) :
    res_out0 m c = stacked fun k => field (m ((c.tc : Thread nD τ).loc main_arg0)) (m ((c.tc : Thread nD τ).loc main_arg1))
      (m ((c.tc : Thread nD τ).loc main_arg2)) (BitVec.ofNat 32 (28 - 4 * Chunk.inv k.val)) k.val (slices_k k) := by
  rfl

/-- Every place holds one of the eight fields. -/
theorem inv_lt (k : ℕ) (hk : k < 8) : Chunk.inv k < 8 := by
  unfold Chunk.inv; omega

/-- The reference's result is the closed form of its arguments. -/
theorem reference_apply (m : (ℓ : Loc nD τ sig) → Buf (Elt Ideal) ℓ) (c : Dev nD) :
    (res_out0 m c : S128x1x32640.Idx → EReal)
      = resOf (m ((c.tc : Thread nD τ).loc main_arg0)) (m ((c.tc : Thread nD τ).loc main_arg1)) (m ((c.tc : Thread nD τ).loc main_arg2)) := by
  rw [res_eq]
  funext y
  idx_vars y
  obtain rfl : y1 = 0 := Subsingleton.elim _ _
  rw [stacked_apply]
  exact field_outVal _ _ _ _ _ _ (inv_lt _ (Nat.mod_lt _ (by decide))) (Nat.mod_lt _ (by decide)) y0 _ y2.val rfl rfl rfl

/-- The frame claim of the reference. -/
theorem quiescent (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run _ _ _).mono (fun r h => ⟨fun c => (h c).2, sem_eq_zero_of_no_sems (by decide) r.2⟩) (run m ρ)

end Cert.Proof.Reference

end
-- ==== Proof.lean ====
/-
  The certificate: the two kernels and the reference end with their arguments as launched and every semaphore counter at zero
  (`KernelRun`, `IdealResult`, `Reference`), the rewrites that lead from the compiled kernel to the idealized one are the
  library's rules (`preserves`), and the idealized kernel's result is the reference's (`algebraic`): both are `resOf` of the
  three arguments.
-/
module

public import proofs.«01_k».proof.Defs
public import proofs.«01_k».proof.Proof.KernelRun
public import proofs.«01_k».proof.Proof.IdealResult
public import proofs.«01_k».proof.Proof.Reference
public import proofs.«01_k».proof.Proof.Gen.ReferenceIdeal
public import Idealize.ShloMosaic.Lib.Bf16PairInverse
public import proofs.«01_k».proof.Proof.Gen.ReferenceIdeal.Run

@[expose] public section

noncomputable section

namespace Cert.Proof

open Idealize.ShloMosaic Idealize.SL.Sem

/-- The idealization's rewrites: one statement of the pair rule per pair of shapes. -/
theorem preserves : Cert.preserves_Kernel_KernelIdeal :=
  ⟨IdealRules.bf16_pair.bufferStatement _ _, IdealRules.bf16_pair.bufferStatement _ _, IdealRules.bf16_pair.packStatement _,
   IdealRules.bf16_pair.statement _ _, IdealRules.bf16_pair.statement _ _, IdealRules.bf16_pair.statement _ _,
   IdealRules.bf16_pair.statement _ _, IdealRules.bf16_pair.statement _ _, IdealRules.bf16_pair.statement _ _,
   IdealRules.bf16_pair.statement _ _, IdealRules.bf16_pair.statement _ _, IdealRules.bf16_pair.statement _ _⟩

/-- The idealized kernel and the reference end with the same result. -/
theorem algebraic : Cert.algebraic_KernelIdeal_ReferenceIdeal := by
  intro m g m' g' _ hagree
  refine ⟨fun c => IdealBody.resI m c, (θ_run _ _ _).mono (fun _ h => h.1) (IdealBody.run_value m g),
    (θ_run _ _ _).mono (fun _ h c => ⟨(h c).1.trans ?_, (h c).2⟩) (Cert.ReferenceIdeal.Value.run m' g')⟩
  refine (Reference.reference_apply m' c).trans ?_
  rw [(hagree c).1, (hagree c).2.1, (hagree c).2.2]
  rfl

theorem claim : Cert.Claim := ⟨Cert.Kernel.Gen.facts, Cert.KernelIdeal.Gen.facts, Cert.ReferenceIdeal.Gen.facts,
  fun m g _ => KernelFrame.quiescent (F := Bits) m g, fun m g _ => IdealBody.quiescent m g, fun m g _ => Reference.quiescent m g,
  preserves, algebraic⟩

end Cert.Proof

end
